-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_on_top_two_unique [hKernelIdeal : Cert.KernelIdeal.Facts] [hReferenceIdeal : Cert.ReferenceIdeal.Facts] [hOn_top_two_unique : Cert.On_top_two_unique.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![128, 512]⟩ ⟨2, ![512, 512]⟩ (Layout.meshBlock [1, 1, 4] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2]⟩ ⟨2, ![512, 8]⟩ (Layout.meshBlock [1, 1, 4] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![8, 512, 1024]⟩ (Layout.meshBlock [1, 1, 4] ![[2], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![8, 1024, 512]⟩ (Layout.meshBlock [1, 1, 4] ![[2], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v270)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![128, 512]⟩ : Shape).Idx, (Layout.blockN ⟨2, ![128, 512]⟩ ⟨2, ![512, 512]⟩ (Layout.meshBlock [1, 1, 4] ![[2], []] c) ((Cert.On_top_two_unique.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![128, 512]⟩ : Shape).Idx → _) i = 1#1 → r.2.mem ((c.tc : Thread Cert.KernelIdeal.nD Cert.KernelIdeal.τ).loc Cert.KernelIdeal.main_v1) i = (Layout.blockN ⟨2, ![128, 512]⟩ ⟨2, ![512, 512]⟩ (Layout.meshBlock [1, 1, 4] ![[2], []] c) v0 : (⟨2, ![128, 512]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![512, 512]⟩ : Shape).Idx, (Cert.On_top_two_unique.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v270) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOn_top_two_unique : Cert.On_top_two_unique.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_top_two_unique (hKernelIdeal := hKernelIdeal) (hReferenceIdeal := hReferenceIdeal) (hOn_top_two_unique := hOn_top_two_unique)
-- ==== On_top_two_unique.lean ====
abbrev S512x512 : Shape := ⟨2, ![512, 512]⟩
abbrev S512x8 : Shape := ⟨2, ![512, 8]⟩
abbrev S8x512x1024 : Shape := ⟨3, ![8, 512, 1024]⟩
abbrev S8x1024x512 : Shape := ⟨3, ![8, 1024, 512]⟩
abbrev S512x1x8 : Shape := ⟨3, ![512, 1, 8]⟩
abbrev S512x8x1 : Shape := ⟨3, ![512, 8, 1]⟩
abbrev S512x8x8 : Shape := ⟨3, ![512, 8, 8]⟩
abbrev S_ : Shape := ⟨0, ![]⟩
abbrev S512 : Shape := ⟨1, ![512]⟩
abbrev S512x1 : Shape := ⟨2, ![512, 1]⟩

class Facts : Prop where
  bcast_S512x8_S512x1x8_0_2 : S512x8.BroadcastsInDim S512x1x8 (![0, 2] : Fin 2 → Fin S512x1x8.rank)
  bcast_S512x8_S512x8x1_0_1 : S512x8.BroadcastsInDim S512x8x1 (![0, 1] : Fin 2 → Fin S512x8x1.rank)
  bcast_S512x1x8_S512x8x8_0_1_2 : S512x1x8.BroadcastsInDim S512x8x8 (![0, 1, 2] : Fin 3 → Fin S512x8x8.rank)
  bcast_S512x8x1_S512x8x8_0_1_2 : S512x8x1.BroadcastsInDim S512x8x8 (![0, 1, 2] : Fin 3 → Fin S512x8x8.rank)
  natLt_1_32 : 1 < 32
  reducesTo_S512x8x8_S512x8_d2 : S512x8x8.ReducesTo [2] S512x8
  h_S_ : 0 < S_.numel
  bcast_S_S512x8 : S_.BroadcastsInDim S512x8 (![] : Fin 0 → Fin S512x8.rank)
  reducesTo_S512x8_S512_d1 : S512x8.ReducesTo [1] S512
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  dot_S512x512_S512x8_S512x8_1_0_0_1_n_n_wf : DotDims.WF S512x512 S512x8 S512x8 [1] [0] [0] [1] [] []

variable [Facts]

def dot_S512x512_S512x8_S512x8_1_0_0_1_n_n : DotDims S512x512 S512x8 S512x8 where
  lhsContracting := [1]
  rhsContracting := [0]
  lhsNonContracting := [0]
  rhsNonContracting := [1]
  lhsBatch := []
  rhsBatch := []
  wf := dot_S512x512_S512x8_S512x8_1_0_0_1_n_n_wf
def fn_part1 {F : FTy → Type} [FloatOps F] (main_v13 : IVec S512 1) (main_v15 : IVec S512x8 1) (main_v17 : IVec S512x8 1) : IVec S512x512 1 :=
  let main_v18 : IVec S512x8 1 := andi main_v15 main_v17
  let main_c_4 : IVec S_ 1 := constantI S_ 1 0#1
  let main_v19 : IVec S512 1 := (fun x v => Host.reduce IntOp.ori x v reducesTo_S512x8_S512_d1 h_S_) main_v18 main_c_4
  let main_v20 : IVec S512 1 := andi main_v13 main_v19
  let main_v21 : IVec S512x1 1 := broadcastInDim S512x1 ![0] bcast_S512_S512x1_0 main_v20
  let main_v22 : IVec S512x512 1 := broadcastInDim S512x512 ![0, 1] bcast_S512x1_S512x512_0_1 main_v21
  main_v22

def fn {F : FTy → Type} [FloatOps F] (main_arg0 : FVec F S512x512 .f32) (main_arg1 : FVec F S512x8 .f32) (main_arg2 : FVec F S8x512x1024 .f32) (main_arg3 : FVec F S8x1024x512 .f32) : IVec S512x512 1 :=
  let main_v0 : FVec F S512x8 .f32 := (fun l r => Host.dotGeneral dot_S512x512_S512x8_S512x8_1_0_0_1_n_n (some .fp32) l r) main_arg0 main_arg1
  let main_v1 : FVec F S512x1x8 .f32 := broadcastInDim S512x1x8 ![0, 2] bcast_S512x8_S512x1x8_0_2 main_v0
  let main_v2 : FVec F S512x8x1 .f32 := broadcastInDim S512x8x1 ![0, 1] bcast_S512x8_S512x8x1_0_1 main_v0
  let main_v3 : FVec F S512x8x8 .f32 := broadcastInDim S512x8x8 ![0, 1, 2] bcast_S512x1x8_S512x8x8_0_1_2 main_v1
  let main_v4 : FVec F S512x8x8 .f32 := broadcastInDim S512x8x8 ![0, 1, 2] bcast_S512x8x1_S512x8x8_0_1_2 main_v2
  let main_v5 : IVec S512x8x8 1 := cmpf .oge main_v3 main_v4
  let main_v6 : IVec S512x8x8 32 := (extui 32 · natLt_1_32) main_v5
  let main_c : IVec S_ 32 := constantI S_ 32 0#32
  let main_v7 : IVec S512x8 32 := (fun x v => Host.reduce IntOp.addi x v reducesTo_S512x8x8_S512x8_d2 h_S_) main_v6 main_c
  let main_c_0 : IVec S_ 32 := constantI S_ 32 1#32
  let main_v8 : IVec S512x8 32 := broadcastInDim S512x8 ![] bcast_S_S512x8 main_c_0
  let main_v9 : IVec S512x8 1 := cmpi .eq main_v7 main_v8
  let main_cst : FVec F S_ .f32 := constant S_ .f32 0x7F800000#32
  let main_v10 : FVec F S512x8 .f32 := broadcastInDim S512x8 ![] bcast_S_S512x8 main_cst
  let main_v11 : IVec S512x8 1 := cmpf .olt main_v0 main_v10
  let main_v12 : IVec S512x8 1 := andi main_v9 main_v11
  let main_c_1 : IVec S_ 1 := constantI S_ 1 0#1
  let main_v13 : IVec S512 1 := (fun x v => Host.reduce IntOp.ori x v reducesTo_S512x8_S512_d1 h_S_) main_v12 main_c_1
  let main_c_2 : IVec S_ 32 := constantI S_ 32 2#32
  let main_v14 : IVec S512x8 32 := broadcastInDim S512x8 ![] bcast_S_S512x8 main_c_2
  let main_v15 : IVec S512x8 1 := cmpi .eq main_v7 main_v14
  let main_cst_3 : FVec F S_ .f32 := constant S_ .f32 0xF149F2CA#32
  let main_v16 : FVec F S512x8 .f32 := broadcastInDim S512x8 ![] bcast_S_S512x8 main_cst_3
  let main_v17 : IVec S512x8 1 := cmpf .oge main_v0 main_v16
  fn_part1 (F := F) main_v13 main_v15 main_v17
-- ==== Kernel.lean ====
abbrev S128x512 : Shape := ⟨2, ![128, 512]⟩
abbrev S512x2 : Shape := ⟨2, ![512, 2]⟩
abbrev S2x512x1024 : Shape := ⟨3, ![2, 512, 1024]⟩
abbrev S2x1024x512 : Shape := ⟨3, ![2, 1024, 512]⟩
abbrev S4x128x512 : Shape := ⟨3, ![4, 128, 512]⟩
abbrev S4x512x2 : Shape := ⟨3, ![4, 512, 2]⟩
abbrev S4x128x8 : Shape := ⟨3, ![4, 128, 8]⟩
abbrev S4 : Shape := ⟨1, ![4]⟩
abbrev S_ : Shape := ⟨0, ![]⟩
abbrev S1x512x2 : Shape := ⟨3, ![1, 512, 2]⟩
abbrev S1x128x512 : Shape := ⟨3, ![1, 128, 512]⟩
abbrev S1 : Shape := ⟨1, ![1]⟩
abbrev S512x8 : Shape := ⟨2, ![512, 8]⟩
abbrev S128x8 : Shape := ⟨2, ![128, 8]⟩
abbrev S128 : Shape := ⟨1, ![128]⟩
abbrev S128x1 : Shape := ⟨2, ![128, 1]⟩
abbrev S1x128x8 : Shape := ⟨3, ![1, 128, 8]⟩
abbrev S1x512x1024 : Shape := ⟨3, ![1, 512, 1024]⟩
abbrev S512x1024 : Shape := ⟨2, ![512, 1024]⟩
abbrev S128x1024 : Shape := ⟨2, ![128, 1024]⟩
abbrev S1x1024x512 : Shape := ⟨3, ![1, 1024, 512]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S128x512, .f32⟩
  | .hbm, ⟨1, _⟩ => ⟨S512x2, .f32⟩
  | .hbm, ⟨2, _⟩ => ⟨S2x512x1024, .f32⟩
  | .hbm, ⟨3, _⟩ => ⟨S2x1024x512, .f32⟩
  | .hbm, ⟨4, _⟩ => ⟨S128x512, .f32⟩
  | .local _ .vmem, ⟨0, _⟩ => ⟨S128x512, .f32⟩
  | .local _ .vmem, ⟨1, _⟩ => ⟨S512x2, .f32⟩
  | .local _ .vmem, ⟨2, _⟩ => ⟨S2x512x1024, .f32⟩
  | .local _ .vmem, ⟨3, _⟩ => ⟨S2x1024x512, .f32⟩
  | .local _ .vmem, ⟨4, _⟩ => ⟨S128x512, .f32⟩
  | .local _ .vmem, ⟨5, _⟩ => ⟨S4x128x512, .bf16⟩
  | .local _ .vmem, ⟨6, _⟩ => ⟨S4x512x2, .f32⟩
  | .local _ .vmem, ⟨7, _⟩ => ⟨S4x128x8, .f32⟩
  | .local _ .vmem, ⟨8, _⟩ => ⟨S4x128x512, .bf16⟩
  | .local _ .vmem, ⟨9, _⟩ => ⟨S4x128x512, .bf16⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v6 : BitVec 32 := Dev.word d0
  let c1_i32_3 : BitVec 32 := 1#32
  let v7 : BitVec 32 := Scalar.divsi v6 c1_i32_3
  let c4_i32_2 : BitVec 32 := 4#32
  let v8 : BitVec 32 := Scalar.remsi v7 c4_i32_2
  let c0_i32 : BitVec 32 := 0#32
  let v10 : BitVec 1 := Scalar.cmpi .ne v8 c0_i32
  let v11 : BitVec 32 := Scalar.extui v10
  let c0_i32_4 : BitVec 32 := 0#32
  let v12 : BitVec 1 := Scalar.cmpi .ne v11 c0_i32_4
  v12

def k0_dev1 (d0 : Dev nD) : Nat :=
  let c0_i32_209 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_208 : BitVec 32 := 4#32
  let v375 : BitVec 32 := Scalar.muli v2 c4_i32_208
  let v376 : BitVec 32 := Scalar.addi c0_i32_209 v375
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_210 : BitVec 32 := 4#32
  let v377 : BitVec 32 := Scalar.muli v5 c4_i32_210
  let v378 : BitVec 32 := Scalar.addi v376 v377
  let c0_i32_207 : BitVec 32 := 0#32
  let c1_i32_211 : BitVec 32 := 1#32
  let v379 : BitVec 32 := Scalar.muli c0_i32_207 c1_i32_211
  let v380 : BitVec 32 := Scalar.addi v378 v379
  v380.toNat
def k0_cond2 (d0 : Dev nD) : BitVec 1 :=
  let v6 : BitVec 32 := Dev.word d0
  let c1_i32_3 : BitVec 32 := 1#32
  let v7 : BitVec 32 := Scalar.divsi v6 c1_i32_3
  let c4_i32_2 : BitVec 32 := 4#32
  let v8 : BitVec 32 := Scalar.remsi v7 c4_i32_2
  let c1_i32_5 : BitVec 32 := 1#32
  let v13 : BitVec 1 := Scalar.cmpi .ne v8 c1_i32_5
  let v14 : BitVec 32 := Scalar.extui v13
  let c0_i32_6 : BitVec 32 := 0#32
  let v15 : BitVec 1 := Scalar.cmpi .ne v14 c0_i32_6
  v15

def k0_dev2 (d0 : Dev nD) : Nat :=
  let c0_i32_209 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_208 : BitVec 32 := 4#32
  let v375 : BitVec 32 := Scalar.muli v2 c4_i32_208
  let v376 : BitVec 32 := Scalar.addi c0_i32_209 v375
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_210 : BitVec 32 := 4#32
  let v377 : BitVec 32 := Scalar.muli v5 c4_i32_210
  let v378 : BitVec 32 := Scalar.addi v376 v377
  let c1_i32_207 : BitVec 32 := 1#32
  let c1_i32_211 : BitVec 32 := 1#32
  let v379 : BitVec 32 := Scalar.muli c1_i32_207 c1_i32_211
  let v380 : BitVec 32 := Scalar.addi v378 v379
  v380.toNat
def k0_cond3 (d0 : Dev nD) : BitVec 1 :=
  let v6 : BitVec 32 := Dev.word d0
  let c1_i32_3 : BitVec 32 := 1#32
  let v7 : BitVec 32 := Scalar.divsi v6 c1_i32_3
  let c4_i32_2 : BitVec 32 := 4#32
  let v8 : BitVec 32 := Scalar.remsi v7 c4_i32_2
  let c2_i32 : BitVec 32 := 2#32
  let v16 : BitVec 1 := Scalar.cmpi .ne v8 c2_i32
  let v17 : BitVec 32 := Scalar.extui v16
  let c0_i32_7 : BitVec 32 := 0#32
  let v18 : BitVec 1 := Scalar.cmpi .ne v17 c0_i32_7
  v18

def k0_dev3 (d0 : Dev nD) : Nat :=
  let c0_i32_209 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_208 : BitVec 32 := 4#32
  let v375 : BitVec 32 := Scalar.muli v2 c4_i32_208
  let v376 : BitVec 32 := Scalar.addi c0_i32_209 v375
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_210 : BitVec 32 := 4#32
  let v377 : BitVec 32 := Scalar.muli v5 c4_i32_210
  let v378 : BitVec 32 := Scalar.addi v376 v377
  let c2_i32_207 : BitVec 32 := 2#32
  let c1_i32_211 : BitVec 32 := 1#32
  let v379 : BitVec 32 := Scalar.muli c2_i32_207 c1_i32_211
  let v380 : BitVec 32 := Scalar.addi v378 v379
  v380.toNat
def k0_cond4 (d0 : Dev nD) : BitVec 1 :=
  let v6 : BitVec 32 := Dev.word d0
  let c1_i32_3 : BitVec 32 := 1#32
  let v7 : BitVec 32 := Scalar.divsi v6 c1_i32_3
  let c4_i32_2 : BitVec 32 := 4#32
  let v8 : BitVec 32 := Scalar.remsi v7 c4_i32_2
  let c3_i32 : BitVec 32 := 3#32
  let v19 : BitVec 1 := Scalar.cmpi .ne v8 c3_i32
  let v20 : BitVec 32 := Scalar.extui v19
  let c0_i32_8 : BitVec 32 := 0#32
  let v21 : BitVec 1 := Scalar.cmpi .ne v20 c0_i32_8
  v21

def k0_dev4 (d0 : Dev nD) : Nat :=
  let c0_i32_209 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_208 : BitVec 32 := 4#32
  let v375 : BitVec 32 := Scalar.muli v2 c4_i32_208
  let v376 : BitVec 32 := Scalar.addi c0_i32_209 v375
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_210 : BitVec 32 := 4#32
  let v377 : BitVec 32 := Scalar.muli v5 c4_i32_210
  let v378 : BitVec 32 := Scalar.addi v376 v377
  let c3_i32_207 : BitVec 32 := 3#32
  let c1_i32_211 : BitVec 32 := 1#32
  let v379 : BitVec 32 := Scalar.muli c3_i32_207 c1_i32_211
  let v380 : BitVec 32 := Scalar.addi v378 v379
  v380.toNat
def k0_cond5 (d0 : Dev nD) : BitVec 1 :=
  let v6 : BitVec 32 := Dev.word d0
  let c1_i32_3 : BitVec 32 := 1#32
  let v7 : BitVec 32 := Scalar.divsi v6 c1_i32_3
  let c4_i32_2 : BitVec 32 := 4#32
  let v8 : BitVec 32 := Scalar.remsi v7 c4_i32_2
  let c0_i32_10 : BitVec 32 := 0#32
  let v22 : BitVec 1 := Scalar.cmpi .eq v8 c0_i32_10
  let v23 : BitVec 32 := Scalar.extui v22
  let c0_i32_11 : BitVec 32 := 0#32
  let v24 : BitVec 1 := Scalar.cmpi .ne v23 c0_i32_11
  v24

def k0_dev5 (d0 : Dev nD) : Nat :=
  let c0_i32_222 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_221 : BitVec 32 := 4#32
  let v386 : BitVec 32 := Scalar.muli v2 c4_i32_221
  let v387 : BitVec 32 := Scalar.addi c0_i32_222 v386
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_223 : BitVec 32 := 4#32
  let v388 : BitVec 32 := Scalar.muli v5 c4_i32_223
  let v389 : BitVec 32 := Scalar.addi v387 v388
  let c1_i32_220 : BitVec 32 := 1#32
  let c1_i32_224 : BitVec 32 := 1#32
  let v390 : BitVec 32 := Scalar.muli c1_i32_220 c1_i32_224
  let v391 : BitVec 32 := Scalar.addi v389 v390
  v391.toNat
def k0_dev6 (d0 : Dev nD) : Nat :=
  let c0_i32_235 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_234 : BitVec 32 := 4#32
  let v400 : BitVec 32 := Scalar.muli v2 c4_i32_234
  let v401 : BitVec 32 := Scalar.addi c0_i32_235 v400
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_236 : BitVec 32 := 4#32
  let v402 : BitVec 32 := Scalar.muli v5 c4_i32_236
  let v403 : BitVec 32 := Scalar.addi v401 v402
  let c2_i32_233 : BitVec 32 := 2#32
  let c1_i32_237 : BitVec 32 := 1#32
  let v404 : BitVec 32 := Scalar.muli c2_i32_233 c1_i32_237
  let v405 : BitVec 32 := Scalar.addi v403 v404
  v405.toNat
def k0_dev7 (d0 : Dev nD) : Nat :=
  let c0_i32_248 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_247 : BitVec 32 := 4#32
  let v414 : BitVec 32 := Scalar.muli v2 c4_i32_247
  let v415 : BitVec 32 := Scalar.addi c0_i32_248 v414
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_249 : BitVec 32 := 4#32
  let v416 : BitVec 32 := Scalar.muli v5 c4_i32_249
  let v417 : BitVec 32 := Scalar.addi v415 v416
  let c3_i32_246 : BitVec 32 := 3#32
  let c1_i32_250 : BitVec 32 := 1#32
  let v418 : BitVec 32 := Scalar.muli c3_i32_246 c1_i32_250
  let v419 : BitVec 32 := Scalar.addi v417 v418
  v419.toNat
def k0_dev8 (d0 : Dev nD) : Nat :=
  let c0_i32_261 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_260 : BitVec 32 := 4#32
  let v428 : BitVec 32 := Scalar.muli v2 c4_i32_260
  let v429 : BitVec 32 := Scalar.addi c0_i32_261 v428
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_262 : BitVec 32 := 4#32
  let v430 : BitVec 32 := Scalar.muli v5 c4_i32_262
  let v431 : BitVec 32 := Scalar.addi v429 v430
  let c1_i32_259 : BitVec 32 := 1#32
  let c1_i32_263 : BitVec 32 := 1#32
  let v432 : BitVec 32 := Scalar.muli c1_i32_259 c1_i32_263
  let v433 : BitVec 32 := Scalar.addi v431 v432
  v433.toNat
def k0_dev9 (d0 : Dev nD) : Nat :=
  let c0_i32_274 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_273 : BitVec 32 := 4#32
  let v442 : BitVec 32 := Scalar.muli v2 c4_i32_273
  let v443 : BitVec 32 := Scalar.addi c0_i32_274 v442
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_275 : BitVec 32 := 4#32
  let v444 : BitVec 32 := Scalar.muli v5 c4_i32_275
  let v445 : BitVec 32 := Scalar.addi v443 v444
  let c2_i32_272 : BitVec 32 := 2#32
  let c1_i32_276 : BitVec 32 := 1#32
  let v446 : BitVec 32 := Scalar.muli c2_i32_272 c1_i32_276
  let v447 : BitVec 32 := Scalar.addi v445 v446
  v447.toNat
def k0_dev10 (d0 : Dev nD) : Nat :=
  let c0_i32_287 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_286 : BitVec 32 := 4#32
  let v456 : BitVec 32 := Scalar.muli v2 c4_i32_286
  let v457 : BitVec 32 := Scalar.addi c0_i32_287 v456
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_288 : BitVec 32 := 4#32
  let v458 : BitVec 32 := Scalar.muli v5 c4_i32_288
  let v459 : BitVec 32 := Scalar.addi v457 v458
  let c3_i32_285 : BitVec 32 := 3#32
  let c1_i32_289 : BitVec 32 := 1#32
  let v460 : BitVec 32 := Scalar.muli c3_i32_285 c1_i32_289
  let v461 : BitVec 32 := Scalar.addi v459 v460
  v461.toNat
def k0_cond6 (d0 : Dev nD) : BitVec 1 :=
  let v6 : BitVec 32 := Dev.word d0
  let c1_i32_3 : BitVec 32 := 1#32
  let v7 : BitVec 32 := Scalar.divsi v6 c1_i32_3
  let c4_i32_2 : BitVec 32 := 4#32
  let v8 : BitVec 32 := Scalar.remsi v7 c4_i32_2
  let c1_i32_12 : BitVec 32 := 1#32
  let v25 : BitVec 1 := Scalar.cmpi .eq v8 c1_i32_12
  let v26 : BitVec 32 := Scalar.extui v25
  let c0_i32_13 : BitVec 32 := 0#32
  let v27 : BitVec 1 := Scalar.cmpi .ne v26 c0_i32_13
  v27

def k0_dev11 (d0 : Dev nD) : Nat :=
  let c0_i32_222 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_221 : BitVec 32 := 4#32
  let v386 : BitVec 32 := Scalar.muli v2 c4_i32_221
  let v387 : BitVec 32 := Scalar.addi c0_i32_222 v386
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_223 : BitVec 32 := 4#32
  let v388 : BitVec 32 := Scalar.muli v5 c4_i32_223
  let v389 : BitVec 32 := Scalar.addi v387 v388
  let c0_i32_220 : BitVec 32 := 0#32
  let c1_i32_224 : BitVec 32 := 1#32
  let v390 : BitVec 32 := Scalar.muli c0_i32_220 c1_i32_224
  let v391 : BitVec 32 := Scalar.addi v389 v390
  v391.toNat
def k0_dev12 (d0 : Dev nD) : Nat :=
  let c0_i32_235 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_234 : BitVec 32 := 4#32
  let v400 : BitVec 32 := Scalar.muli v2 c4_i32_234
  let v401 : BitVec 32 := Scalar.addi c0_i32_235 v400
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_236 : BitVec 32 := 4#32
  let v402 : BitVec 32 := Scalar.muli v5 c4_i32_236
  let v403 : BitVec 32 := Scalar.addi v401 v402
  let c2_i32_233 : BitVec 32 := 2#32
  let c1_i32_237 : BitVec 32 := 1#32
  let v404 : BitVec 32 := Scalar.muli c2_i32_233 c1_i32_237
  let v405 : BitVec 32 := Scalar.addi v403 v404
  v405.toNat
def k0_dev13 (d0 : Dev nD) : Nat :=
  let c0_i32_248 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_247 : BitVec 32 := 4#32
  let v414 : BitVec 32 := Scalar.muli v2 c4_i32_247
  let v415 : BitVec 32 := Scalar.addi c0_i32_248 v414
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_249 : BitVec 32 := 4#32
  let v416 : BitVec 32 := Scalar.muli v5 c4_i32_249
  let v417 : BitVec 32 := Scalar.addi v415 v416
  let c3_i32_246 : BitVec 32 := 3#32
  let c1_i32_250 : BitVec 32 := 1#32
  let v418 : BitVec 32 := Scalar.muli c3_i32_246 c1_i32_250
  let v419 : BitVec 32 := Scalar.addi v417 v418
  v419.toNat
def k0_dev14 (d0 : Dev nD) : Nat :=
  let c0_i32_261 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_260 : BitVec 32 := 4#32
  let v428 : BitVec 32 := Scalar.muli v2 c4_i32_260
  let v429 : BitVec 32 := Scalar.addi c0_i32_261 v428
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_262 : BitVec 32 := 4#32
  let v430 : BitVec 32 := Scalar.muli v5 c4_i32_262
  let v431 : BitVec 32 := Scalar.addi v429 v430
  let c0_i32_259 : BitVec 32 := 0#32
  let c1_i32_263 : BitVec 32 := 1#32
  let v432 : BitVec 32 := Scalar.muli c0_i32_259 c1_i32_263
  let v433 : BitVec 32 := Scalar.addi v431 v432
  v433.toNat
def k0_dev15 (d0 : Dev nD) : Nat :=
  let c0_i32_274 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_273 : BitVec 32 := 4#32
  let v442 : BitVec 32 := Scalar.muli v2 c4_i32_273
  let v443 : BitVec 32 := Scalar.addi c0_i32_274 v442
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_275 : BitVec 32 := 4#32
  let v444 : BitVec 32 := Scalar.muli v5 c4_i32_275
  let v445 : BitVec 32 := Scalar.addi v443 v444
  let c2_i32_272 : BitVec 32 := 2#32
  let c1_i32_276 : BitVec 32 := 1#32
  let v446 : BitVec 32 := Scalar.muli c2_i32_272 c1_i32_276
  let v447 : BitVec 32 := Scalar.addi v445 v446
  v447.toNat
def k0_dev16 (d0 : Dev nD) : Nat :=
  let c0_i32_287 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_286 : BitVec 32 := 4#32
  let v456 : BitVec 32 := Scalar.muli v2 c4_i32_286
  let v457 : BitVec 32 := Scalar.addi c0_i32_287 v456
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_288 : BitVec 32 := 4#32
  let v458 : BitVec 32 := Scalar.muli v5 c4_i32_288
  let v459 : BitVec 32 := Scalar.addi v457 v458
  let c3_i32_285 : BitVec 32 := 3#32
  let c1_i32_289 : BitVec 32 := 1#32
  let v460 : BitVec 32 := Scalar.muli c3_i32_285 c1_i32_289
  let v461 : BitVec 32 := Scalar.addi v459 v460
  v461.toNat
def k0_cond7 (d0 : Dev nD) : BitVec 1 :=
  let v6 : BitVec 32 := Dev.word d0
  let c1_i32_3 : BitVec 32 := 1#32
  let v7 : BitVec 32 := Scalar.divsi v6 c1_i32_3
  let c4_i32_2 : BitVec 32 := 4#32
  let v8 : BitVec 32 := Scalar.remsi v7 c4_i32_2
  let c2_i32_14 : BitVec 32 := 2#32
  let v28 : BitVec 1 := Scalar.cmpi .eq v8 c2_i32_14
  let v29 : BitVec 32 := Scalar.extui v28
  let c0_i32_15 : BitVec 32 := 0#32
  let v30 : BitVec 1 := Scalar.cmpi .ne v29 c0_i32_15
  v30

def k0_dev17 (d0 : Dev nD) : Nat :=
  let c0_i32_222 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_221 : BitVec 32 := 4#32
  let v386 : BitVec 32 := Scalar.muli v2 c4_i32_221
  let v387 : BitVec 32 := Scalar.addi c0_i32_222 v386
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_223 : BitVec 32 := 4#32
  let v388 : BitVec 32 := Scalar.muli v5 c4_i32_223
  let v389 : BitVec 32 := Scalar.addi v387 v388
  let c0_i32_220 : BitVec 32 := 0#32
  let c1_i32_224 : BitVec 32 := 1#32
  let v390 : BitVec 32 := Scalar.muli c0_i32_220 c1_i32_224
  let v391 : BitVec 32 := Scalar.addi v389 v390
  v391.toNat
def k0_dev18 (d0 : Dev nD) : Nat :=
  let c0_i32_235 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_234 : BitVec 32 := 4#32
  let v400 : BitVec 32 := Scalar.muli v2 c4_i32_234
  let v401 : BitVec 32 := Scalar.addi c0_i32_235 v400
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_236 : BitVec 32 := 4#32
  let v402 : BitVec 32 := Scalar.muli v5 c4_i32_236
  let v403 : BitVec 32 := Scalar.addi v401 v402
  let c1_i32_233 : BitVec 32 := 1#32
  let c1_i32_237 : BitVec 32 := 1#32
  let v404 : BitVec 32 := Scalar.muli c1_i32_233 c1_i32_237
  let v405 : BitVec 32 := Scalar.addi v403 v404
  v405.toNat
def k0_dev19 (d0 : Dev nD) : Nat :=
  let c0_i32_248 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_247 : BitVec 32 := 4#32
  let v414 : BitVec 32 := Scalar.muli v2 c4_i32_247
  let v415 : BitVec 32 := Scalar.addi c0_i32_248 v414
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_249 : BitVec 32 := 4#32
  let v416 : BitVec 32 := Scalar.muli v5 c4_i32_249
  let v417 : BitVec 32 := Scalar.addi v415 v416
  let c3_i32_246 : BitVec 32 := 3#32
  let c1_i32_250 : BitVec 32 := 1#32
  let v418 : BitVec 32 := Scalar.muli c3_i32_246 c1_i32_250
  let v419 : BitVec 32 := Scalar.addi v417 v418
  v419.toNat
def k0_dev20 (d0 : Dev nD) : Nat :=
  let c0_i32_261 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_260 : BitVec 32 := 4#32
  let v428 : BitVec 32 := Scalar.muli v2 c4_i32_260
  let v429 : BitVec 32 := Scalar.addi c0_i32_261 v428
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_262 : BitVec 32 := 4#32
  let v430 : BitVec 32 := Scalar.muli v5 c4_i32_262
  let v431 : BitVec 32 := Scalar.addi v429 v430
  let c0_i32_259 : BitVec 32 := 0#32
  let c1_i32_263 : BitVec 32 := 1#32
  let v432 : BitVec 32 := Scalar.muli c0_i32_259 c1_i32_263
  let v433 : BitVec 32 := Scalar.addi v431 v432
  v433.toNat
def k0_dev21 (d0 : Dev nD) : Nat :=
  let c0_i32_274 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_273 : BitVec 32 := 4#32
  let v442 : BitVec 32 := Scalar.muli v2 c4_i32_273
  let v443 : BitVec 32 := Scalar.addi c0_i32_274 v442
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_275 : BitVec 32 := 4#32
  let v444 : BitVec 32 := Scalar.muli v5 c4_i32_275
  let v445 : BitVec 32 := Scalar.addi v443 v444
  let c1_i32_272 : BitVec 32 := 1#32
  let c1_i32_276 : BitVec 32 := 1#32
  let v446 : BitVec 32 := Scalar.muli c1_i32_272 c1_i32_276
  let v447 : BitVec 32 := Scalar.addi v445 v446
  v447.toNat
def k0_dev22 (d0 : Dev nD) : Nat :=
  let c0_i32_287 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_286 : BitVec 32 := 4#32
  let v456 : BitVec 32 := Scalar.muli v2 c4_i32_286
  let v457 : BitVec 32 := Scalar.addi c0_i32_287 v456
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_288 : BitVec 32 := 4#32
  let v458 : BitVec 32 := Scalar.muli v5 c4_i32_288
  let v459 : BitVec 32 := Scalar.addi v457 v458
  let c3_i32_285 : BitVec 32 := 3#32
  let c1_i32_289 : BitVec 32 := 1#32
  let v460 : BitVec 32 := Scalar.muli c3_i32_285 c1_i32_289
  let v461 : BitVec 32 := Scalar.addi v459 v460
  v461.toNat
def k0_cond8 (d0 : Dev nD) : BitVec 1 :=
  let v6 : BitVec 32 := Dev.word d0
  let c1_i32_3 : BitVec 32 := 1#32
  let v7 : BitVec 32 := Scalar.divsi v6 c1_i32_3
  let c4_i32_2 : BitVec 32 := 4#32
  let v8 : BitVec 32 := Scalar.remsi v7 c4_i32_2
  let c3_i32_16 : BitVec 32 := 3#32
  let v31 : BitVec 1 := Scalar.cmpi .eq v8 c3_i32_16
  let v32 : BitVec 32 := Scalar.extui v31
  let c0_i32_17 : BitVec 32 := 0#32
  let v33 : BitVec 1 := Scalar.cmpi .ne v32 c0_i32_17
  v33

def k0_dev23 (d0 : Dev nD) : Nat :=
  let c0_i32_222 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_221 : BitVec 32 := 4#32
  let v386 : BitVec 32 := Scalar.muli v2 c4_i32_221
  let v387 : BitVec 32 := Scalar.addi c0_i32_222 v386
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_223 : BitVec 32 := 4#32
  let v388 : BitVec 32 := Scalar.muli v5 c4_i32_223
  let v389 : BitVec 32 := Scalar.addi v387 v388
  let c0_i32_220 : BitVec 32 := 0#32
  let c1_i32_224 : BitVec 32 := 1#32
  let v390 : BitVec 32 := Scalar.muli c0_i32_220 c1_i32_224
  let v391 : BitVec 32 := Scalar.addi v389 v390
  v391.toNat
def k0_dev24 (d0 : Dev nD) : Nat :=
  let c0_i32_235 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_234 : BitVec 32 := 4#32
  let v400 : BitVec 32 := Scalar.muli v2 c4_i32_234
  let v401 : BitVec 32 := Scalar.addi c0_i32_235 v400
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_236 : BitVec 32 := 4#32
  let v402 : BitVec 32 := Scalar.muli v5 c4_i32_236
  let v403 : BitVec 32 := Scalar.addi v401 v402
  let c1_i32_233 : BitVec 32 := 1#32
  let c1_i32_237 : BitVec 32 := 1#32
  let v404 : BitVec 32 := Scalar.muli c1_i32_233 c1_i32_237
  let v405 : BitVec 32 := Scalar.addi v403 v404
  v405.toNat
def k0_dev25 (d0 : Dev nD) : Nat :=
  let c0_i32_248 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_247 : BitVec 32 := 4#32
  let v414 : BitVec 32 := Scalar.muli v2 c4_i32_247
  let v415 : BitVec 32 := Scalar.addi c0_i32_248 v414
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_249 : BitVec 32 := 4#32
  let v416 : BitVec 32 := Scalar.muli v5 c4_i32_249
  let v417 : BitVec 32 := Scalar.addi v415 v416
  let c2_i32_246 : BitVec 32 := 2#32
  let c1_i32_250 : BitVec 32 := 1#32
  let v418 : BitVec 32 := Scalar.muli c2_i32_246 c1_i32_250
  let v419 : BitVec 32 := Scalar.addi v417 v418
  v419.toNat
def k0_dev26 (d0 : Dev nD) : Nat :=
  let c0_i32_261 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_260 : BitVec 32 := 4#32
  let v428 : BitVec 32 := Scalar.muli v2 c4_i32_260
  let v429 : BitVec 32 := Scalar.addi c0_i32_261 v428
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_262 : BitVec 32 := 4#32
  let v430 : BitVec 32 := Scalar.muli v5 c4_i32_262
  let v431 : BitVec 32 := Scalar.addi v429 v430
  let c0_i32_259 : BitVec 32 := 0#32
  let c1_i32_263 : BitVec 32 := 1#32
  let v432 : BitVec 32 := Scalar.muli c0_i32_259 c1_i32_263
  let v433 : BitVec 32 := Scalar.addi v431 v432
  v433.toNat
def k0_dev27 (d0 : Dev nD) : Nat :=
  let c0_i32_274 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_273 : BitVec 32 := 4#32
  let v442 : BitVec 32 := Scalar.muli v2 c4_i32_273
  let v443 : BitVec 32 := Scalar.addi c0_i32_274 v442
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_275 : BitVec 32 := 4#32
  let v444 : BitVec 32 := Scalar.muli v5 c4_i32_275
  let v445 : BitVec 32 := Scalar.addi v443 v444
  let c1_i32_272 : BitVec 32 := 1#32
  let c1_i32_276 : BitVec 32 := 1#32
  let v446 : BitVec 32 := Scalar.muli c1_i32_272 c1_i32_276
  let v447 : BitVec 32 := Scalar.addi v445 v446
  v447.toNat
def k0_dev28 (d0 : Dev nD) : Nat :=
  let c0_i32_287 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_286 : BitVec 32 := 4#32
  let v456 : BitVec 32 := Scalar.muli v2 c4_i32_286
  let v457 : BitVec 32 := Scalar.addi c0_i32_287 v456
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_288 : BitVec 32 := 4#32
  let v458 : BitVec 32 := Scalar.muli v5 c4_i32_288
  let v459 : BitVec 32 := Scalar.addi v457 v458
  let c2_i32_285 : BitVec 32 := 2#32
  let c1_i32_289 : BitVec 32 := 1#32
  let v460 : BitVec 32 := Scalar.muli c2_i32_285 c1_i32_289
  let v461 : BitVec 32 := Scalar.addi v459 v460
  v461.toNat
def k0_cond13 (d0 : Dev nD) : BitVec 1 :=
  let v6 : BitVec 32 := Dev.word d0
  let c1_i32_3 : BitVec 32 := 1#32
  let v7 : BitVec 32 := Scalar.divsi v6 c1_i32_3
  let c4_i32_2 : BitVec 32 := 4#32
  let v8 : BitVec 32 := Scalar.remsi v7 c4_i32_2
  let c0_i32_47 : BitVec 32 := 0#32
  let v85 : BitVec 1 := Scalar.cmpi .eq v8 c0_i32_47
  let v86 : BitVec 32 := Scalar.extui v85
  let c0_i32_48 : BitVec 32 := 0#32
  let v87 : BitVec 1 := Scalar.cmpi .ne v86 c0_i32_48
  v87

def k0_dev29 (d0 : Dev nD) : Nat :=
  let c0_i32_215 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_214 : BitVec 32 := 4#32
  let v378 : BitVec 32 := Scalar.muli v2 c4_i32_214
  let v379 : BitVec 32 := Scalar.addi c0_i32_215 v378
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_216 : BitVec 32 := 4#32
  let v380 : BitVec 32 := Scalar.muli v5 c4_i32_216
  let v381 : BitVec 32 := Scalar.addi v379 v380
  let c1_i32_213 : BitVec 32 := 1#32
  let c1_i32_217 : BitVec 32 := 1#32
  let v382 : BitVec 32 := Scalar.muli c1_i32_213 c1_i32_217
  let v383 : BitVec 32 := Scalar.addi v381 v382
  v383.toNat
def k0_dev30 (d0 : Dev nD) : Nat :=
  let c0_i32_228 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_227 : BitVec 32 := 4#32
  let v392 : BitVec 32 := Scalar.muli v2 c4_i32_227
  let v393 : BitVec 32 := Scalar.addi c0_i32_228 v392
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_229 : BitVec 32 := 4#32
  let v394 : BitVec 32 := Scalar.muli v5 c4_i32_229
  let v395 : BitVec 32 := Scalar.addi v393 v394
  let c2_i32_226 : BitVec 32 := 2#32
  let c1_i32_230 : BitVec 32 := 1#32
  let v396 : BitVec 32 := Scalar.muli c2_i32_226 c1_i32_230
  let v397 : BitVec 32 := Scalar.addi v395 v396
  v397.toNat
def k0_dev31 (d0 : Dev nD) : Nat :=
  let c0_i32_241 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_240 : BitVec 32 := 4#32
  let v406 : BitVec 32 := Scalar.muli v2 c4_i32_240
  let v407 : BitVec 32 := Scalar.addi c0_i32_241 v406
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_242 : BitVec 32 := 4#32
  let v408 : BitVec 32 := Scalar.muli v5 c4_i32_242
  let v409 : BitVec 32 := Scalar.addi v407 v408
  let c3_i32_239 : BitVec 32 := 3#32
  let c1_i32_243 : BitVec 32 := 1#32
  let v410 : BitVec 32 := Scalar.muli c3_i32_239 c1_i32_243
  let v411 : BitVec 32 := Scalar.addi v409 v410
  v411.toNat
def k0_cond14 (d0 : Dev nD) : BitVec 1 :=
  let v6 : BitVec 32 := Dev.word d0
  let c1_i32_3 : BitVec 32 := 1#32
  let v7 : BitVec 32 := Scalar.divsi v6 c1_i32_3
  let c4_i32_2 : BitVec 32 := 4#32
  let v8 : BitVec 32 := Scalar.remsi v7 c4_i32_2
  let c1_i32_49 : BitVec 32 := 1#32
  let v88 : BitVec 1 := Scalar.cmpi .eq v8 c1_i32_49
  let v89 : BitVec 32 := Scalar.extui v88
  let c0_i32_50 : BitVec 32 := 0#32
  let v90 : BitVec 1 := Scalar.cmpi .ne v89 c0_i32_50
  v90

def k0_dev32 (d0 : Dev nD) : Nat :=
  let c0_i32_215 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_214 : BitVec 32 := 4#32
  let v378 : BitVec 32 := Scalar.muli v2 c4_i32_214
  let v379 : BitVec 32 := Scalar.addi c0_i32_215 v378
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_216 : BitVec 32 := 4#32
  let v380 : BitVec 32 := Scalar.muli v5 c4_i32_216
  let v381 : BitVec 32 := Scalar.addi v379 v380
  let c0_i32_213 : BitVec 32 := 0#32
  let c1_i32_217 : BitVec 32 := 1#32
  let v382 : BitVec 32 := Scalar.muli c0_i32_213 c1_i32_217
  let v383 : BitVec 32 := Scalar.addi v381 v382
  v383.toNat
def k0_dev33 (d0 : Dev nD) : Nat :=
  let c0_i32_228 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_227 : BitVec 32 := 4#32
  let v392 : BitVec 32 := Scalar.muli v2 c4_i32_227
  let v393 : BitVec 32 := Scalar.addi c0_i32_228 v392
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_229 : BitVec 32 := 4#32
  let v394 : BitVec 32 := Scalar.muli v5 c4_i32_229
  let v395 : BitVec 32 := Scalar.addi v393 v394
  let c2_i32_226 : BitVec 32 := 2#32
  let c1_i32_230 : BitVec 32 := 1#32
  let v396 : BitVec 32 := Scalar.muli c2_i32_226 c1_i32_230
  let v397 : BitVec 32 := Scalar.addi v395 v396
  v397.toNat
def k0_dev34 (d0 : Dev nD) : Nat :=
  let c0_i32_241 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_240 : BitVec 32 := 4#32
  let v406 : BitVec 32 := Scalar.muli v2 c4_i32_240
  let v407 : BitVec 32 := Scalar.addi c0_i32_241 v406
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_242 : BitVec 32 := 4#32
  let v408 : BitVec 32 := Scalar.muli v5 c4_i32_242
  let v409 : BitVec 32 := Scalar.addi v407 v408
  let c3_i32_239 : BitVec 32 := 3#32
  let c1_i32_243 : BitVec 32 := 1#32
  let v410 : BitVec 32 := Scalar.muli c3_i32_239 c1_i32_243
  let v411 : BitVec 32 := Scalar.addi v409 v410
  v411.toNat
def k0_cond15 (d0 : Dev nD) : BitVec 1 :=
  let v6 : BitVec 32 := Dev.word d0
  let c1_i32_3 : BitVec 32 := 1#32
  let v7 : BitVec 32 := Scalar.divsi v6 c1_i32_3
  let c4_i32_2 : BitVec 32 := 4#32
  let v8 : BitVec 32 := Scalar.remsi v7 c4_i32_2
  let c2_i32_51 : BitVec 32 := 2#32
  let v91 : BitVec 1 := Scalar.cmpi .eq v8 c2_i32_51
  let v92 : BitVec 32 := Scalar.extui v91
  let c0_i32_52 : BitVec 32 := 0#32
  let v93 : BitVec 1 := Scalar.cmpi .ne v92 c0_i32_52
  v93

def k0_dev35 (d0 : Dev nD) : Nat :=
  let c0_i32_215 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_214 : BitVec 32 := 4#32
  let v378 : BitVec 32 := Scalar.muli v2 c4_i32_214
  let v379 : BitVec 32 := Scalar.addi c0_i32_215 v378
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_216 : BitVec 32 := 4#32
  let v380 : BitVec 32 := Scalar.muli v5 c4_i32_216
  let v381 : BitVec 32 := Scalar.addi v379 v380
  let c0_i32_213 : BitVec 32 := 0#32
  let c1_i32_217 : BitVec 32 := 1#32
  let v382 : BitVec 32 := Scalar.muli c0_i32_213 c1_i32_217
  let v383 : BitVec 32 := Scalar.addi v381 v382
  v383.toNat
def k0_dev36 (d0 : Dev nD) : Nat :=
  let c0_i32_228 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_227 : BitVec 32 := 4#32
  let v392 : BitVec 32 := Scalar.muli v2 c4_i32_227
  let v393 : BitVec 32 := Scalar.addi c0_i32_228 v392
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_229 : BitVec 32 := 4#32
  let v394 : BitVec 32 := Scalar.muli v5 c4_i32_229
  let v395 : BitVec 32 := Scalar.addi v393 v394
  let c1_i32_226 : BitVec 32 := 1#32
  let c1_i32_230 : BitVec 32 := 1#32
  let v396 : BitVec 32 := Scalar.muli c1_i32_226 c1_i32_230
  let v397 : BitVec 32 := Scalar.addi v395 v396
  v397.toNat
def k0_dev37 (d0 : Dev nD) : Nat :=
  let c0_i32_241 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_240 : BitVec 32 := 4#32
  let v406 : BitVec 32 := Scalar.muli v2 c4_i32_240
  let v407 : BitVec 32 := Scalar.addi c0_i32_241 v406
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_242 : BitVec 32 := 4#32
  let v408 : BitVec 32 := Scalar.muli v5 c4_i32_242
  let v409 : BitVec 32 := Scalar.addi v407 v408
  let c3_i32_239 : BitVec 32 := 3#32
  let c1_i32_243 : BitVec 32 := 1#32
  let v410 : BitVec 32 := Scalar.muli c3_i32_239 c1_i32_243
  let v411 : BitVec 32 := Scalar.addi v409 v410
  v411.toNat
def k0_cond16 (d0 : Dev nD) : BitVec 1 :=
  let v6 : BitVec 32 := Dev.word d0
  let c1_i32_3 : BitVec 32 := 1#32
  let v7 : BitVec 32 := Scalar.divsi v6 c1_i32_3
  let c4_i32_2 : BitVec 32 := 4#32
  let v8 : BitVec 32 := Scalar.remsi v7 c4_i32_2
  let c3_i32_53 : BitVec 32 := 3#32
  let v94 : BitVec 1 := Scalar.cmpi .eq v8 c3_i32_53
  let v95 : BitVec 32 := Scalar.extui v94
  let c0_i32_54 : BitVec 32 := 0#32
  let v96 : BitVec 1 := Scalar.cmpi .ne v95 c0_i32_54
  v96

def k0_dev38 (d0 : Dev nD) : Nat :=
  let c0_i32_215 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_214 : BitVec 32 := 4#32
  let v378 : BitVec 32 := Scalar.muli v2 c4_i32_214
  let v379 : BitVec 32 := Scalar.addi c0_i32_215 v378
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_216 : BitVec 32 := 4#32
  let v380 : BitVec 32 := Scalar.muli v5 c4_i32_216
  let v381 : BitVec 32 := Scalar.addi v379 v380
  let c0_i32_213 : BitVec 32 := 0#32
  let c1_i32_217 : BitVec 32 := 1#32
  let v382 : BitVec 32 := Scalar.muli c0_i32_213 c1_i32_217
  let v383 : BitVec 32 := Scalar.addi v381 v382
  v383.toNat
def k0_dev39 (d0 : Dev nD) : Nat :=
  let c0_i32_228 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_227 : BitVec 32 := 4#32
  let v392 : BitVec 32 := Scalar.muli v2 c4_i32_227
  let v393 : BitVec 32 := Scalar.addi c0_i32_228 v392
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_229 : BitVec 32 := 4#32
  let v394 : BitVec 32 := Scalar.muli v5 c4_i32_229
  let v395 : BitVec 32 := Scalar.addi v393 v394
  let c1_i32_226 : BitVec 32 := 1#32
  let c1_i32_230 : BitVec 32 := 1#32
  let v396 : BitVec 32 := Scalar.muli c1_i32_226 c1_i32_230
  let v397 : BitVec 32 := Scalar.addi v395 v396
  v397.toNat
def k0_dev40 (d0 : Dev nD) : Nat :=
  let c0_i32_241 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_240 : BitVec 32 := 4#32
  let v406 : BitVec 32 := Scalar.muli v2 c4_i32_240
  let v407 : BitVec 32 := Scalar.addi c0_i32_241 v406
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_242 : BitVec 32 := 4#32
  let v408 : BitVec 32 := Scalar.muli v5 c4_i32_242
  let v409 : BitVec 32 := Scalar.addi v407 v408
  let c2_i32_239 : BitVec 32 := 2#32
  let c1_i32_243 : BitVec 32 := 1#32
  let v410 : BitVec 32 := Scalar.muli c2_i32_239 c1_i32_243
  let v411 : BitVec 32 := Scalar.addi v409 v410
  v411.toNat
def k0_cond19 (d0 : Dev nD) : BitVec 1 :=
  let v6 : BitVec 32 := Dev.word d0
  let c1_i32_3 : BitVec 32 := 1#32
  let v7 : BitVec 32 := Scalar.divsi v6 c1_i32_3
  let c4_i32_2 : BitVec 32 := 4#32
  let v8 : BitVec 32 := Scalar.remsi v7 c4_i32_2
  let c1_i32_80 : BitVec 32 := 1#32
  let v149 : BitVec 1 := Scalar.cmpi .eq v8 c1_i32_80
  let v150 : BitVec 32 := Scalar.extui v149
  let c0_i32_81 : BitVec 32 := 0#32
  let v151 : BitVec 1 := Scalar.cmpi .ne v150 c0_i32_81
  v151

def k0_dev41 (d0 : Dev nD) : Nat :=
  let c0_i32_212 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_211 : BitVec 32 := 4#32
  let v375 : BitVec 32 := Scalar.muli v2 c4_i32_211
  let v376 : BitVec 32 := Scalar.addi c0_i32_212 v375
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_213 : BitVec 32 := 4#32
  let v377 : BitVec 32 := Scalar.muli v5 c4_i32_213
  let v378 : BitVec 32 := Scalar.addi v376 v377
  let c0_i32_210 : BitVec 32 := 0#32
  let c1_i32_214 : BitVec 32 := 1#32
  let v379 : BitVec 32 := Scalar.muli c0_i32_210 c1_i32_214
  let v380 : BitVec 32 := Scalar.addi v378 v379
  v380.toNat
def k0_cond20 (d0 : Dev nD) : BitVec 1 :=
  let v6 : BitVec 32 := Dev.word d0
  let c1_i32_3 : BitVec 32 := 1#32
  let v7 : BitVec 32 := Scalar.divsi v6 c1_i32_3
  let c4_i32_2 : BitVec 32 := 4#32
  let v8 : BitVec 32 := Scalar.remsi v7 c4_i32_2
  let c2_i32_82 : BitVec 32 := 2#32
  let v152 : BitVec 1 := Scalar.cmpi .eq v8 c2_i32_82
  let v153 : BitVec 32 := Scalar.extui v152
  let c0_i32_83 : BitVec 32 := 0#32
  let v154 : BitVec 1 := Scalar.cmpi .ne v153 c0_i32_83
  v154

def k0_dev42 (d0 : Dev nD) : Nat :=
  let c0_i32_212 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_211 : BitVec 32 := 4#32
  let v375 : BitVec 32 := Scalar.muli v2 c4_i32_211
  let v376 : BitVec 32 := Scalar.addi c0_i32_212 v375
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_213 : BitVec 32 := 4#32
  let v377 : BitVec 32 := Scalar.muli v5 c4_i32_213
  let v378 : BitVec 32 := Scalar.addi v376 v377
  let c0_i32_210 : BitVec 32 := 0#32
  let c1_i32_214 : BitVec 32 := 1#32
  let v379 : BitVec 32 := Scalar.muli c0_i32_210 c1_i32_214
  let v380 : BitVec 32 := Scalar.addi v378 v379
  v380.toNat
def k0_cond21 (d0 : Dev nD) : BitVec 1 :=
  let v6 : BitVec 32 := Dev.word d0
  let c1_i32_3 : BitVec 32 := 1#32
  let v7 : BitVec 32 := Scalar.divsi v6 c1_i32_3
  let c4_i32_2 : BitVec 32 := 4#32
  let v8 : BitVec 32 := Scalar.remsi v7 c4_i32_2
  let c3_i32_84 : BitVec 32 := 3#32
  let v155 : BitVec 1 := Scalar.cmpi .eq v8 c3_i32_84
  let v156 : BitVec 32 := Scalar.extui v155
  let c0_i32_85 : BitVec 32 := 0#32
  let v157 : BitVec 1 := Scalar.cmpi .ne v156 c0_i32_85
  v157

def k0_dev43 (d0 : Dev nD) : Nat :=
  let c0_i32_212 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_211 : BitVec 32 := 4#32
  let v375 : BitVec 32 := Scalar.muli v2 c4_i32_211
  let v376 : BitVec 32 := Scalar.addi c0_i32_212 v375
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_213 : BitVec 32 := 4#32
  let v377 : BitVec 32 := Scalar.muli v5 c4_i32_213
  let v378 : BitVec 32 := Scalar.addi v376 v377
  let c0_i32_210 : BitVec 32 := 0#32
  let c1_i32_214 : BitVec 32 := 1#32
  let v379 : BitVec 32 := Scalar.muli c0_i32_210 c1_i32_214
  let v380 : BitVec 32 := Scalar.addi v378 v379
  v380.toNat
def k0_cond23 (d0 : Dev nD) : BitVec 1 :=
  let v6 : BitVec 32 := Dev.word d0
  let c1_i32_3 : BitVec 32 := 1#32
  let v7 : BitVec 32 := Scalar.divsi v6 c1_i32_3
  let c4_i32_2 : BitVec 32 := 4#32
  let v8 : BitVec 32 := Scalar.remsi v7 c4_i32_2
  let c0_i32_108 : BitVec 32 := 0#32
  let v205 : BitVec 1 := Scalar.cmpi .eq v8 c0_i32_108
  let v206 : BitVec 32 := Scalar.extui v205
  let c0_i32_109 : BitVec 32 := 0#32
  let v207 : BitVec 1 := Scalar.cmpi .ne v206 c0_i32_109
  v207

def k0_dev44 (d0 : Dev nD) : Nat :=
  let c0_i32_212 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_211 : BitVec 32 := 4#32
  let v375 : BitVec 32 := Scalar.muli v2 c4_i32_211
  let v376 : BitVec 32 := Scalar.addi c0_i32_212 v375
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_213 : BitVec 32 := 4#32
  let v377 : BitVec 32 := Scalar.muli v5 c4_i32_213
  let v378 : BitVec 32 := Scalar.addi v376 v377
  let c1_i32_210 : BitVec 32 := 1#32
  let c1_i32_214 : BitVec 32 := 1#32
  let v379 : BitVec 32 := Scalar.muli c1_i32_210 c1_i32_214
  let v380 : BitVec 32 := Scalar.addi v378 v379
  v380.toNat
def k0_cond25 (d0 : Dev nD) : BitVec 1 :=
  let v6 : BitVec 32 := Dev.word d0
  let c1_i32_3 : BitVec 32 := 1#32
  let v7 : BitVec 32 := Scalar.divsi v6 c1_i32_3
  let c4_i32_2 : BitVec 32 := 4#32
  let v8 : BitVec 32 := Scalar.remsi v7 c4_i32_2
  let c2_i32_112 : BitVec 32 := 2#32
  let v211 : BitVec 1 := Scalar.cmpi .eq v8 c2_i32_112
  let v212 : BitVec 32 := Scalar.extui v211
  let c0_i32_113 : BitVec 32 := 0#32
  let v213 : BitVec 1 := Scalar.cmpi .ne v212 c0_i32_113
  v213

def k0_dev45 (d0 : Dev nD) : Nat :=
  let c0_i32_212 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_211 : BitVec 32 := 4#32
  let v375 : BitVec 32 := Scalar.muli v2 c4_i32_211
  let v376 : BitVec 32 := Scalar.addi c0_i32_212 v375
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_213 : BitVec 32 := 4#32
  let v377 : BitVec 32 := Scalar.muli v5 c4_i32_213
  let v378 : BitVec 32 := Scalar.addi v376 v377
  let c1_i32_210 : BitVec 32 := 1#32
  let c1_i32_214 : BitVec 32 := 1#32
  let v379 : BitVec 32 := Scalar.muli c1_i32_210 c1_i32_214
  let v380 : BitVec 32 := Scalar.addi v378 v379
  v380.toNat
def k0_cond26 (d0 : Dev nD) : BitVec 1 :=
  let v6 : BitVec 32 := Dev.word d0
  let c1_i32_3 : BitVec 32 := 1#32
  let v7 : BitVec 32 := Scalar.divsi v6 c1_i32_3
  let c4_i32_2 : BitVec 32 := 4#32
  let v8 : BitVec 32 := Scalar.remsi v7 c4_i32_2
  let c3_i32_114 : BitVec 32 := 3#32
  let v214 : BitVec 1 := Scalar.cmpi .eq v8 c3_i32_114
  let v215 : BitVec 32 := Scalar.extui v214
  let c0_i32_115 : BitVec 32 := 0#32
  let v216 : BitVec 1 := Scalar.cmpi .ne v215 c0_i32_115
  v216

def k0_dev46 (d0 : Dev nD) : Nat :=
  let c0_i32_212 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_211 : BitVec 32 := 4#32
  let v375 : BitVec 32 := Scalar.muli v2 c4_i32_211
  let v376 : BitVec 32 := Scalar.addi c0_i32_212 v375
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_213 : BitVec 32 := 4#32
  let v377 : BitVec 32 := Scalar.muli v5 c4_i32_213
  let v378 : BitVec 32 := Scalar.addi v376 v377
  let c1_i32_210 : BitVec 32 := 1#32
  let c1_i32_214 : BitVec 32 := 1#32
  let v379 : BitVec 32 := Scalar.muli c1_i32_210 c1_i32_214
  let v380 : BitVec 32 := Scalar.addi v378 v379
  v380.toNat
def k0_cond28 (d0 : Dev nD) : BitVec 1 :=
  let v6 : BitVec 32 := Dev.word d0
  let c1_i32_3 : BitVec 32 := 1#32
  let v7 : BitVec 32 := Scalar.divsi v6 c1_i32_3
  let c4_i32_2 : BitVec 32 := 4#32
  let v8 : BitVec 32 := Scalar.remsi v7 c4_i32_2
  let c0_i32_138 : BitVec 32 := 0#32
  let v264 : BitVec 1 := Scalar.cmpi .eq v8 c0_i32_138
  let v265 : BitVec 32 := Scalar.extui v264
  let c0_i32_139 : BitVec 32 := 0#32
  let v266 : BitVec 1 := Scalar.cmpi .ne v265 c0_i32_139
  v266

def k0_dev47 (d0 : Dev nD) : Nat :=
  let c0_i32_212 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_211 : BitVec 32 := 4#32
  let v375 : BitVec 32 := Scalar.muli v2 c4_i32_211
  let v376 : BitVec 32 := Scalar.addi c0_i32_212 v375
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_213 : BitVec 32 := 4#32
  let v377 : BitVec 32 := Scalar.muli v5 c4_i32_213
  let v378 : BitVec 32 := Scalar.addi v376 v377
  let c2_i32_210 : BitVec 32 := 2#32
  let c1_i32_214 : BitVec 32 := 1#32
  let v379 : BitVec 32 := Scalar.muli c2_i32_210 c1_i32_214
  let v380 : BitVec 32 := Scalar.addi v378 v379
  v380.toNat
def k0_cond29 (d0 : Dev nD) : BitVec 1 :=
  let v6 : BitVec 32 := Dev.word d0
  let c1_i32_3 : BitVec 32 := 1#32
  let v7 : BitVec 32 := Scalar.divsi v6 c1_i32_3
  let c4_i32_2 : BitVec 32 := 4#32
  let v8 : BitVec 32 := Scalar.remsi v7 c4_i32_2
  let c1_i32_140 : BitVec 32 := 1#32
  let v267 : BitVec 1 := Scalar.cmpi .eq v8 c1_i32_140
  let v268 : BitVec 32 := Scalar.extui v267
  let c0_i32_141 : BitVec 32 := 0#32
  let v269 : BitVec 1 := Scalar.cmpi .ne v268 c0_i32_141
  v269

def k0_dev48 (d0 : Dev nD) : Nat :=
  let c0_i32_212 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_211 : BitVec 32 := 4#32
  let v375 : BitVec 32 := Scalar.muli v2 c4_i32_211
  let v376 : BitVec 32 := Scalar.addi c0_i32_212 v375
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_213 : BitVec 32 := 4#32
  let v377 : BitVec 32 := Scalar.muli v5 c4_i32_213
  let v378 : BitVec 32 := Scalar.addi v376 v377
  let c2_i32_210 : BitVec 32 := 2#32
  let c1_i32_214 : BitVec 32 := 1#32
  let v379 : BitVec 32 := Scalar.muli c2_i32_210 c1_i32_214
  let v380 : BitVec 32 := Scalar.addi v378 v379
  v380.toNat
def k0_cond31 (d0 : Dev nD) : BitVec 1 :=
  let v6 : BitVec 32 := Dev.word d0
  let c1_i32_3 : BitVec 32 := 1#32
  let v7 : BitVec 32 := Scalar.divsi v6 c1_i32_3
  let c4_i32_2 : BitVec 32 := 4#32
  let v8 : BitVec 32 := Scalar.remsi v7 c4_i32_2
  let c3_i32_144 : BitVec 32 := 3#32
  let v273 : BitVec 1 := Scalar.cmpi .eq v8 c3_i32_144
  let v274 : BitVec 32 := Scalar.extui v273
  let c0_i32_145 : BitVec 32 := 0#32
  let v275 : BitVec 1 := Scalar.cmpi .ne v274 c0_i32_145
  v275

def k0_dev49 (d0 : Dev nD) : Nat :=
  let c0_i32_212 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_211 : BitVec 32 := 4#32
  let v375 : BitVec 32 := Scalar.muli v2 c4_i32_211
  let v376 : BitVec 32 := Scalar.addi c0_i32_212 v375
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_213 : BitVec 32 := 4#32
  let v377 : BitVec 32 := Scalar.muli v5 c4_i32_213
  let v378 : BitVec 32 := Scalar.addi v376 v377
  let c2_i32_210 : BitVec 32 := 2#32
  let c1_i32_214 : BitVec 32 := 1#32
  let v379 : BitVec 32 := Scalar.muli c2_i32_210 c1_i32_214
  let v380 : BitVec 32 := Scalar.addi v378 v379
  v380.toNat
def k0_cond33 (d0 : Dev nD) : BitVec 1 :=
  let v6 : BitVec 32 := Dev.word d0
  let c1_i32_3 : BitVec 32 := 1#32
  let v7 : BitVec 32 := Scalar.divsi v6 c1_i32_3
  let c4_i32_2 : BitVec 32 := 4#32
  let v8 : BitVec 32 := Scalar.remsi v7 c4_i32_2
  let c0_i32_168 : BitVec 32 := 0#32
  let v323 : BitVec 1 := Scalar.cmpi .eq v8 c0_i32_168
  let v324 : BitVec 32 := Scalar.extui v323
  let c0_i32_169 : BitVec 32 := 0#32
  let v325 : BitVec 1 := Scalar.cmpi .ne v324 c0_i32_169
  v325

def k0_dev50 (d0 : Dev nD) : Nat :=
  let c0_i32_212 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_211 : BitVec 32 := 4#32
  let v375 : BitVec 32 := Scalar.muli v2 c4_i32_211
  let v376 : BitVec 32 := Scalar.addi c0_i32_212 v375
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_213 : BitVec 32 := 4#32
  let v377 : BitVec 32 := Scalar.muli v5 c4_i32_213
  let v378 : BitVec 32 := Scalar.addi v376 v377
  let c3_i32_210 : BitVec 32 := 3#32
  let c1_i32_214 : BitVec 32 := 1#32
  let v379 : BitVec 32 := Scalar.muli c3_i32_210 c1_i32_214
  let v380 : BitVec 32 := Scalar.addi v378 v379
  v380.toNat
def k0_cond34 (d0 : Dev nD) : BitVec 1 :=
  let v6 : BitVec 32 := Dev.word d0
  let c1_i32_3 : BitVec 32 := 1#32
  let v7 : BitVec 32 := Scalar.divsi v6 c1_i32_3
  let c4_i32_2 : BitVec 32 := 4#32
  let v8 : BitVec 32 := Scalar.remsi v7 c4_i32_2
  let c1_i32_170 : BitVec 32 := 1#32
  let v326 : BitVec 1 := Scalar.cmpi .eq v8 c1_i32_170
  let v327 : BitVec 32 := Scalar.extui v326
  let c0_i32_171 : BitVec 32 := 0#32
  let v328 : BitVec 1 := Scalar.cmpi .ne v327 c0_i32_171
  v328

def k0_dev51 (d0 : Dev nD) : Nat :=
  let c0_i32_212 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_211 : BitVec 32 := 4#32
  let v375 : BitVec 32 := Scalar.muli v2 c4_i32_211
  let v376 : BitVec 32 := Scalar.addi c0_i32_212 v375
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_213 : BitVec 32 := 4#32
  let v377 : BitVec 32 := Scalar.muli v5 c4_i32_213
  let v378 : BitVec 32 := Scalar.addi v376 v377
  let c3_i32_210 : BitVec 32 := 3#32
  let c1_i32_214 : BitVec 32 := 1#32
  let v379 : BitVec 32 := Scalar.muli c3_i32_210 c1_i32_214
  let v380 : BitVec 32 := Scalar.addi v378 v379
  v380.toNat
def k0_cond35 (d0 : Dev nD) : BitVec 1 :=
  let v6 : BitVec 32 := Dev.word d0
  let c1_i32_3 : BitVec 32 := 1#32
  let v7 : BitVec 32 := Scalar.divsi v6 c1_i32_3
  let c4_i32_2 : BitVec 32 := 4#32
  let v8 : BitVec 32 := Scalar.remsi v7 c4_i32_2
  let c2_i32_172 : BitVec 32 := 2#32
  let v329 : BitVec 1 := Scalar.cmpi .eq v8 c2_i32_172
  let v330 : BitVec 32 := Scalar.extui v329
  let c0_i32_173 : BitVec 32 := 0#32
  let v331 : BitVec 1 := Scalar.cmpi .ne v330 c0_i32_173
  v331

def k0_dev52 (d0 : Dev nD) : Nat :=
  let c0_i32_212 : BitVec 32 := 0#32
  let v0 : BitVec 32 := Dev.word d0
  let c4_i32 : BitVec 32 := 4#32
  let v1 : BitVec 32 := Scalar.divsi v0 c4_i32
  let c1_i32 : BitVec 32 := 1#32
  let v2 : BitVec 32 := Scalar.remsi v1 c1_i32
  let c4_i32_211 : BitVec 32 := 4#32
  let v375 : BitVec 32 := Scalar.muli v2 c4_i32_211
  let v376 : BitVec 32 := Scalar.addi c0_i32_212 v375
  let v3 : BitVec 32 := Dev.word d0
  let c4_i32_1 : BitVec 32 := 4#32
  let v4 : BitVec 32 := Scalar.divsi v3 c4_i32_1
  let c1_i32_0 : BitVec 32 := 1#32
  let v5 : BitVec 32 := Scalar.remsi v4 c1_i32_0
  let c4_i32_213 : BitVec 32 := 4#32
  let v377 : BitVec 32 := Scalar.muli v5 c4_i32_213
  let v378 : BitVec 32 := Scalar.addi v376 v377
  let c3_i32_210 : BitVec 32 := 3#32
  let c1_i32_214 : BitVec 32 := 1#32
  let v379 : BitVec 32 := Scalar.muli c3_i32_210 c1_i32_214
  let v380 : BitVec 32 := Scalar.addi v378 v379
  v380.toNat
abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S512x512 : Shape := ⟨2, ![512, 512]⟩
abbrev S512x8 : Shape := ⟨2, ![512, 8]⟩
abbrev S8x512x1024 : Shape := ⟨3, ![8, 512, 1024]⟩
abbrev S8x1024x512 : Shape := ⟨3, ![8, 1024, 512]⟩
abbrev S512x2 : Shape := ⟨2, ![512, 2]⟩
abbrev S_ : Shape := ⟨0, ![]⟩
abbrev S512x2x1 : Shape := ⟨3, ![512, 2, 1]⟩
abbrev S1 : Shape := ⟨1, ![1]⟩
abbrev S1x1x1 : Shape := ⟨3, ![1, 1, 1]⟩
abbrev S512 : Shape := ⟨1, ![512]⟩
abbrev S512x1 : Shape := ⟨2, ![512, 1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩

abbrev nBuf : Space → Nat
  | .hbm => 397
  | .vmem => 0
  | .smem => 0
  | _ => 0

abbrev hbmTy0_0 (i : Nat) : BufTy := match i % 128 with
  | 0 => ⟨S512x512, .f32⟩
  | 1 => ⟨S512x8, .f32⟩
  | 2 => ⟨S8x512x1024, .f32⟩
  | 3 => ⟨S8x1024x512, .f32⟩
  | 4 => ⟨S512x8, .f32⟩
  | 5 => ⟨S512x8, .f32⟩
  | 6 => ⟨S512x8, .i32⟩
  | 7 => ⟨S512x8, .f32⟩
  | 8 => ⟨S512x8, .i32⟩
  | 9 => ⟨S512x2, .i32⟩
  | 10 => ⟨S_, .i32⟩
  | 11 => ⟨S512x2, .i32⟩
  | 12 => ⟨S512x2, .i1⟩
  | 13 => ⟨S_, .i32⟩
  | 14 => ⟨S512x2, .i32⟩
  | 15 => ⟨S512x2, .i32⟩
  | 16 => ⟨S512x2, .i32⟩
  | 17 => ⟨S512x2x1, .i32⟩
  | 18 => ⟨S1, .i32⟩
  | 19 => ⟨S_, .i32⟩
  | 20 => ⟨S512x2x1, .i32⟩
  | 21 => ⟨S512x2x1, .i1⟩
  | 22 => ⟨S1x1x1, .i32⟩
  | 23 => ⟨S512x2x1, .i32⟩
  | 24 => ⟨S512x2x1, .i1⟩
  | 25 => ⟨S512x2x1, .i1⟩
  | 26 => ⟨S_, .i1⟩
  | 27 => ⟨S512x2, .i1⟩
  | 28 => ⟨S512x2, .f32⟩
  | 29 => ⟨S_, .f32⟩
  | 30 => ⟨S512x2, .f32⟩
  | 31 => ⟨S512x2, .f32⟩
  | 32 => ⟨S_, .f32⟩
  | 33 => ⟨S512, .f32⟩
  | 34 => ⟨S512x1, .f32⟩
  | 35 => ⟨S512x2, .f32⟩
  | 36 => ⟨S512x2, .f32⟩
  | 37 => ⟨S512x2, .f32⟩
  | 38 => ⟨S_, .f32⟩
  | 39 => ⟨S512, .f32⟩
  | 40 => ⟨S512x1, .f32⟩
  | 41 => ⟨S512x2, .f32⟩
  | 42 => ⟨S512x2, .f32⟩
  | 43 => ⟨S_, .f32⟩
  | 44 => ⟨S512x512, .f32⟩
  | 45 => ⟨S512x1, .i32⟩
  | 46 => ⟨S_, .i32⟩
  | 47 => ⟨S512x1, .i32⟩
  | 48 => ⟨S512x1, .i1⟩
  | 49 => ⟨S1x512x1024, .f32⟩
  | 50 => ⟨S512x1024, .f32⟩
  | 51 => ⟨S512x1024, .f32⟩
  | 52 => ⟨S_, .f32⟩
  | 53 => ⟨S512x1024, .f32⟩
  | 54 => ⟨S512x1024, .f32⟩
  | 55 => ⟨S1x1024x512, .f32⟩
  | 56 => ⟨S1024x512, .f32⟩
  | 57 => ⟨S512x512, .f32⟩
  | 58 => ⟨S512x1, .f32⟩
  | 59 => ⟨S512x512, .f32⟩
  | 60 => ⟨S512x512, .f32⟩
  | 61 => ⟨S_, .f32⟩
  | 62 => ⟨S_, .f32⟩
  | 63 => ⟨S512x512, .i1⟩
  | 64 => ⟨S512x512, .f32⟩
  | 65 => ⟨S512x512, .f32⟩
  | 66 => ⟨S512x512, .f32⟩
  | 67 => ⟨S512x1, .i32⟩
  | 68 => ⟨S_, .i32⟩
  | 69 => ⟨S512x1, .i32⟩
  | 70 => ⟨S512x1, .i1⟩
  | 71 => ⟨S1x512x1024, .f32⟩
  | 72 => ⟨S512x1024, .f32⟩
  | 73 => ⟨S512x1024, .f32⟩
  | 74 => ⟨S_, .f32⟩
  | 75 => ⟨S512x1024, .f32⟩
  | 76 => ⟨S512x1024, .f32⟩
  | 77 => ⟨S1x1024x512, .f32⟩
  | 78 => ⟨S1024x512, .f32⟩
  | 79 => ⟨S512x512, .f32⟩
  | 80 => ⟨S512x1, .f32⟩
  | 81 => ⟨S512x512, .f32⟩
  | 82 => ⟨S512x512, .f32⟩
  | 83 => ⟨S_, .f32⟩
  | 84 => ⟨S_, .f32⟩
  | 85 => ⟨S512x512, .i1⟩
  | 86 => ⟨S512x512, .f32⟩
  | 87 => ⟨S512x512, .f32⟩
  | 88 => ⟨S512x512, .f32⟩
  | 89 => ⟨S512x1, .i32⟩
  | 90 => ⟨S_, .i32⟩
  | 91 => ⟨S512x1, .i32⟩
  | 92 => ⟨S512x1, .i1⟩
  | 93 => ⟨S1x512x1024, .f32⟩
  | 94 => ⟨S512x1024, .f32⟩
  | 95 => ⟨S512x1024, .f32⟩
  | 96 => ⟨S_, .f32⟩
  | 97 => ⟨S512x1024, .f32⟩
  | 98 => ⟨S512x1024, .f32⟩
  | 99 => ⟨S1x1024x512, .f32⟩
  | 100 => ⟨S1024x512, .f32⟩
  | 101 => ⟨S512x512, .f32⟩
  | 102 => ⟨S512x1, .f32⟩
  | 103 => ⟨S512x512, .f32⟩
  | 104 => ⟨S512x512, .f32⟩
  | 105 => ⟨S_, .f32⟩
  | 106 => ⟨S_, .f32⟩
  | 107 => ⟨S512x512, .i1⟩
  | 108 => ⟨S512x512, .f32⟩
  | 109 => ⟨S512x512, .f32⟩
  | 110 => ⟨S512x512, .f32⟩
  | 111 => ⟨S512x1, .i32⟩
  | 112 => ⟨S_, .i32⟩
  | 113 => ⟨S512x1, .i32⟩
  | 114 => ⟨S512x1, .i1⟩
  | 115 => ⟨S1x512x1024, .f32⟩
  | 116 => ⟨S512x1024, .f32⟩
  | 117 => ⟨S512x1024, .f32⟩
  | 118 => ⟨S_, .f32⟩
  | 119 => ⟨S512x1024, .f32⟩
  | 120 => ⟨S512x1024, .f32⟩
  | 121 => ⟨S1x1024x512, .f32⟩
  | 122 => ⟨S1024x512, .f32⟩
  | 123 => ⟨S512x512, .f32⟩
  | 124 => ⟨S512x1, .f32⟩
  | 125 => ⟨S512x512, .f32⟩
  | 126 => ⟨S512x512, .f32⟩
  | 127 => ⟨S_, .f32⟩
  | _ => ⟨S512x512, .f32⟩

abbrev hbmTy0_1 (i : Nat) : BufTy := match i % 128 with
  | 0 => ⟨S_, .f32⟩
  | 1 => ⟨S512x512, .i1⟩
  | 2 => ⟨S512x512, .f32⟩
  | 3 => ⟨S512x512, .f32⟩
  | 4 => ⟨S512x512, .f32⟩
  | 5 => ⟨S512x1, .i32⟩
  | 6 => ⟨S_, .i32⟩
  | 7 => ⟨S512x1, .i32⟩
  | 8 => ⟨S512x1, .i1⟩
  | 9 => ⟨S1x512x1024, .f32⟩
  | 10 => ⟨S512x1024, .f32⟩
  | 11 => ⟨S512x1024, .f32⟩
  | 12 => ⟨S_, .f32⟩
  | 13 => ⟨S512x1024, .f32⟩
  | 14 => ⟨S512x1024, .f32⟩
  | 15 => ⟨S1x1024x512, .f32⟩
  | 16 => ⟨S1024x512, .f32⟩
  | 17 => ⟨S512x512, .f32⟩
  | 18 => ⟨S512x1, .f32⟩
  | 19 => ⟨S512x512, .f32⟩
  | 20 => ⟨S512x512, .f32⟩
  | 21 => ⟨S_, .f32⟩
  | 22 => ⟨S_, .f32⟩
  | 23 => ⟨S512x512, .i1⟩
  | 24 => ⟨S512x512, .f32⟩
  | 25 => ⟨S512x512, .f32⟩
  | 26 => ⟨S512x512, .f32⟩
  | 27 => ⟨S512x1, .i32⟩
  | 28 => ⟨S_, .i32⟩
  | 29 => ⟨S512x1, .i32⟩
  | 30 => ⟨S512x1, .i1⟩
  | 31 => ⟨S1x512x1024, .f32⟩
  | 32 => ⟨S512x1024, .f32⟩
  | 33 => ⟨S512x1024, .f32⟩
  | 34 => ⟨S_, .f32⟩
  | 35 => ⟨S512x1024, .f32⟩
  | 36 => ⟨S512x1024, .f32⟩
  | 37 => ⟨S1x1024x512, .f32⟩
  | 38 => ⟨S1024x512, .f32⟩
  | 39 => ⟨S512x512, .f32⟩
  | 40 => ⟨S512x1, .f32⟩
  | 41 => ⟨S512x512, .f32⟩
  | 42 => ⟨S512x512, .f32⟩
  | 43 => ⟨S_, .f32⟩
  | 44 => ⟨S_, .f32⟩
  | 45 => ⟨S512x512, .i1⟩
  | 46 => ⟨S512x512, .f32⟩
  | 47 => ⟨S512x512, .f32⟩
  | 48 => ⟨S512x512, .f32⟩
  | 49 => ⟨S512x1, .i32⟩
  | 50 => ⟨S_, .i32⟩
  | 51 => ⟨S512x1, .i32⟩
  | 52 => ⟨S512x1, .i1⟩
  | 53 => ⟨S1x512x1024, .f32⟩
  | 54 => ⟨S512x1024, .f32⟩
  | 55 => ⟨S512x1024, .f32⟩
  | 56 => ⟨S_, .f32⟩
  | 57 => ⟨S512x1024, .f32⟩
  | 58 => ⟨S512x1024, .f32⟩
  | 59 => ⟨S1x1024x512, .f32⟩
  | 60 => ⟨S1024x512, .f32⟩
  | 61 => ⟨S512x512, .f32⟩
  | 62 => ⟨S512x1, .f32⟩
  | 63 => ⟨S512x512, .f32⟩
  | 64 => ⟨S512x512, .f32⟩
  | 65 => ⟨S_, .f32⟩
  | 66 => ⟨S_, .f32⟩
  | 67 => ⟨S512x512, .i1⟩
  | 68 => ⟨S512x512, .f32⟩
  | 69 => ⟨S512x512, .f32⟩
  | 70 => ⟨S512x512, .f32⟩
  | 71 => ⟨S512x1, .i32⟩
  | 72 => ⟨S_, .i32⟩
  | 73 => ⟨S512x1, .i32⟩
  | 74 => ⟨S512x1, .i1⟩
  | 75 => ⟨S1x512x1024, .f32⟩
  | 76 => ⟨S512x1024, .f32⟩
  | 77 => ⟨S512x1024, .f32⟩
  | 78 => ⟨S_, .f32⟩
  | 79 => ⟨S512x1024, .f32⟩
  | 80 => ⟨S512x1024, .f32⟩
  | 81 => ⟨S1x1024x512, .f32⟩
  | 82 => ⟨S1024x512, .f32⟩
  | 83 => ⟨S512x512, .f32⟩
  | 84 => ⟨S512x1, .f32⟩
  | 85 => ⟨S512x512, .f32⟩
  | 86 => ⟨S512x512, .f32⟩
  | 87 => ⟨S_, .f32⟩
  | 88 => ⟨S_, .f32⟩
  | 89 => ⟨S512x512, .i1⟩
  | 90 => ⟨S512x512, .f32⟩
  | 91 => ⟨S512x512, .f32⟩
  | 92 => ⟨S512x512, .f32⟩
  | 93 => ⟨S512x1, .i32⟩
  | 94 => ⟨S_, .i32⟩
  | 95 => ⟨S512x1, .i32⟩
  | 96 => ⟨S512x1, .i1⟩
  | 97 => ⟨S1x512x1024, .f32⟩
  | 98 => ⟨S512x1024, .f32⟩
  | 99 => ⟨S512x1024, .f32⟩
  | 100 => ⟨S_, .f32⟩
  | 101 => ⟨S512x1024, .f32⟩
  | 102 => ⟨S512x1024, .f32⟩
  | 103 => ⟨S1x1024x512, .f32⟩
  | 104 => ⟨S1024x512, .f32⟩
  | 105 => ⟨S512x512, .f32⟩
  | 106 => ⟨S512x1, .f32⟩
  | 107 => ⟨S512x512, .f32⟩
  | 108 => ⟨S512x512, .f32⟩
  | 109 => ⟨S_, .f32⟩
  | 110 => ⟨S_, .f32⟩
  | 111 => ⟨S512x512, .i1⟩
  | 112 => ⟨S512x512, .f32⟩
  | 113 => ⟨S512x512, .f32⟩
  | 114 => ⟨S512x512, .f32⟩
  | 115 => ⟨S512x1, .i32⟩
  | 116 => ⟨S_, .i32⟩
  | 117 => ⟨S512x1, .i32⟩
  | 118 => ⟨S512x1, .i1⟩
  | 119 => ⟨S1x512x1024, .f32⟩
  | 120 => ⟨S512x1024, .f32⟩
  | 121 => ⟨S512x1024, .f32⟩
  | 122 => ⟨S_, .f32⟩
  | 123 => ⟨S512x1024, .f32⟩
  | 124 => ⟨S512x1024, .f32⟩
  | 125 => ⟨S1x1024x512, .f32⟩
  | 126 => ⟨S1024x512, .f32⟩
  | 127 => ⟨S512x512, .f32⟩
  | _ => ⟨S512x512, .f32⟩

abbrev hbmTy0_2 (i : Nat) : BufTy := match i % 128 with
  | 0 => ⟨S512x1, .f32⟩
  | 1 => ⟨S512x512, .f32⟩
  | 2 => ⟨S512x512, .f32⟩
  | 3 => ⟨S_, .f32⟩
  | 4 => ⟨S_, .f32⟩
  | 5 => ⟨S512x512, .i1⟩
  | 6 => ⟨S512x512, .f32⟩
  | 7 => ⟨S512x512, .f32⟩
  | 8 => ⟨S512x512, .f32⟩
  | 9 => ⟨S512x1, .i32⟩
  | 10 => ⟨S_, .i32⟩
  | 11 => ⟨S512x1, .i32⟩
  | 12 => ⟨S512x1, .i1⟩
  | 13 => ⟨S1x512x1024, .f32⟩
  | 14 => ⟨S512x1024, .f32⟩
  | 15 => ⟨S512x1024, .f32⟩
  | 16 => ⟨S_, .f32⟩
  | 17 => ⟨S512x1024, .f32⟩
  | 18 => ⟨S512x1024, .f32⟩
  | 19 => ⟨S1x1024x512, .f32⟩
  | 20 => ⟨S1024x512, .f32⟩
  | 21 => ⟨S512x512, .f32⟩
  | 22 => ⟨S512x1, .f32⟩
  | 23 => ⟨S512x512, .f32⟩
  | 24 => ⟨S512x512, .f32⟩
  | 25 => ⟨S_, .f32⟩
  | 26 => ⟨S_, .f32⟩
  | 27 => ⟨S512x512, .i1⟩
  | 28 => ⟨S512x512, .f32⟩
  | 29 => ⟨S512x512, .f32⟩
  | 30 => ⟨S512x512, .f32⟩
  | 31 => ⟨S512x1, .i32⟩
  | 32 => ⟨S_, .i32⟩
  | 33 => ⟨S512x1, .i32⟩
  | 34 => ⟨S512x1, .i1⟩
  | 35 => ⟨S1x512x1024, .f32⟩
  | 36 => ⟨S512x1024, .f32⟩
  | 37 => ⟨S512x1024, .f32⟩
  | 38 => ⟨S_, .f32⟩
  | 39 => ⟨S512x1024, .f32⟩
  | 40 => ⟨S512x1024, .f32⟩
  | 41 => ⟨S1x1024x512, .f32⟩
  | 42 => ⟨S1024x512, .f32⟩
  | 43 => ⟨S512x512, .f32⟩
  | 44 => ⟨S512x1, .f32⟩
  | 45 => ⟨S512x512, .f32⟩
  | 46 => ⟨S512x512, .f32⟩
  | 47 => ⟨S_, .f32⟩
  | 48 => ⟨S_, .f32⟩
  | 49 => ⟨S512x512, .i1⟩
  | 50 => ⟨S512x512, .f32⟩
  | 51 => ⟨S512x512, .f32⟩
  | 52 => ⟨S512x512, .f32⟩
  | 53 => ⟨S512x1, .i32⟩
  | 54 => ⟨S_, .i32⟩
  | 55 => ⟨S512x1, .i32⟩
  | 56 => ⟨S512x1, .i1⟩
  | 57 => ⟨S1x512x1024, .f32⟩
  | 58 => ⟨S512x1024, .f32⟩
  | 59 => ⟨S512x1024, .f32⟩
  | 60 => ⟨S_, .f32⟩
  | 61 => ⟨S512x1024, .f32⟩
  | 62 => ⟨S512x1024, .f32⟩
  | 63 => ⟨S1x1024x512, .f32⟩
  | 64 => ⟨S1024x512, .f32⟩
  | 65 => ⟨S512x512, .f32⟩
  | 66 => ⟨S512x1, .f32⟩
  | 67 => ⟨S512x512, .f32⟩
  | 68 => ⟨S512x512, .f32⟩
  | 69 => ⟨S_, .f32⟩
  | 70 => ⟨S_, .f32⟩
  | 71 => ⟨S512x512, .i1⟩
  | 72 => ⟨S512x512, .f32⟩
  | 73 => ⟨S512x512, .f32⟩
  | 74 => ⟨S512x512, .f32⟩
  | 75 => ⟨S512x1, .i32⟩
  | 76 => ⟨S_, .i32⟩
  | 77 => ⟨S512x1, .i32⟩
  | 78 => ⟨S512x1, .i1⟩
  | 79 => ⟨S1x512x1024, .f32⟩
  | 80 => ⟨S512x1024, .f32⟩
  | 81 => ⟨S512x1024, .f32⟩
  | 82 => ⟨S_, .f32⟩
  | 83 => ⟨S512x1024, .f32⟩
  | 84 => ⟨S512x1024, .f32⟩
  | 85 => ⟨S1x1024x512, .f32⟩
  | 86 => ⟨S1024x512, .f32⟩
  | 87 => ⟨S512x512, .f32⟩
  | 88 => ⟨S512x1, .f32⟩
  | 89 => ⟨S512x512, .f32⟩
  | 90 => ⟨S512x512, .f32⟩
  | 91 => ⟨S_, .f32⟩
  | 92 => ⟨S_, .f32⟩
  | 93 => ⟨S512x512, .i1⟩
  | 94 => ⟨S512x512, .f32⟩
  | 95 => ⟨S512x512, .f32⟩
  | 96 => ⟨S512x512, .f32⟩
  | 97 => ⟨S512x1, .i32⟩
  | 98 => ⟨S_, .i32⟩
  | 99 => ⟨S512x1, .i32⟩
  | 100 => ⟨S512x1, .i1⟩
  | 101 => ⟨S1x512x1024, .f32⟩
  | 102 => ⟨S512x1024, .f32⟩
  | 103 => ⟨S512x1024, .f32⟩
  | 104 => ⟨S_, .f32⟩
  | 105 => ⟨S512x1024, .f32⟩
  | 106 => ⟨S512x1024, .f32⟩
  | 107 => ⟨S1x1024x512, .f32⟩
  | 108 => ⟨S1024x512, .f32⟩
  | 109 => ⟨S512x512, .f32⟩
  | 110 => ⟨S512x1, .f32⟩
  | 111 => ⟨S512x512, .f32⟩
  | 112 => ⟨S512x512, .f32⟩
  | 113 => ⟨S_, .f32⟩
  | 114 => ⟨S_, .f32⟩
  | 115 => ⟨S512x512, .i1⟩
  | 116 => ⟨S512x512, .f32⟩
  | 117 => ⟨S512x512, .f32⟩
  | 118 => ⟨S512x512, .f32⟩
  | 119 => ⟨S512x1, .i32⟩
  | 120 => ⟨S_, .i32⟩
  | 121 => ⟨S512x1, .i32⟩
  | 122 => ⟨S512x1, .i1⟩
  | 123 => ⟨S1x512x1024, .f32⟩
  | 124 => ⟨S512x1024, .f32⟩
  | 125 => ⟨S512x1024, .f32⟩
  | 126 => ⟨S_, .f32⟩
  | 127 => ⟨S512x1024, .f32⟩
  | _ => ⟨S512x512, .f32⟩

abbrev hbmTy0_3 (i : Nat) : BufTy := match i % 128 with
  | 0 => ⟨S512x1024, .f32⟩
  | 1 => ⟨S1x1024x512, .f32⟩
  | 2 => ⟨S1024x512, .f32⟩
  | 3 => ⟨S512x512, .f32⟩
  | 4 => ⟨S512x1, .f32⟩
  | 5 => ⟨S512x512, .f32⟩
  | 6 => ⟨S512x512, .f32⟩
  | 7 => ⟨S_, .f32⟩
  | 8 => ⟨S_, .f32⟩
  | 9 => ⟨S512x512, .i1⟩
  | 10 => ⟨S512x512, .f32⟩
  | 11 => ⟨S512x512, .f32⟩
  | 12 => ⟨S512x512, .f32⟩
  | _ => ⟨S512x512, .f32⟩

abbrev hbmTy (i : Nat) : BufTy := match i / 128 with
  | 0 => hbmTy0_0 i
  | 1 => hbmTy0_1 i
  | 2 => hbmTy0_2 i
  | 3 => hbmTy0_3 i
  | _ => ⟨S512x512, .f32⟩

abbrev bufTy : (tb : Table) → Fin (tcTables nBuf tb) → BufTy
  | .hbm, ⟨i, _⟩ => hbmTy i
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1_0 : Ref sig .tc := ⟨.hbm, 7, rfl⟩
abbrev main_v2 : Ref sig .tc := ⟨.hbm, 8, rfl⟩
abbrev main_v3 : Ref sig .tc := ⟨.hbm, 9, rfl⟩
abbrev main_call1_c : Ref sig .tc := ⟨.hbm, 10, rfl⟩
abbrev main_call1_v0 : Ref sig .tc := ⟨.hbm, 11, rfl⟩
abbrev main_call1_v1 : Ref sig .tc := ⟨.hbm, 12, rfl⟩
abbrev main_call1_c_0 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_c_1 : Ref sig .tc := ⟨.hbm, 18, rfl⟩
abbrev main_call1_c_2 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_3 : Ref sig .tc := ⟨.hbm, 26, rfl⟩
abbrev main_call1_v12 : Ref sig .tc := ⟨.hbm, 27, rfl⟩
abbrev main_call1_v13 : Ref sig .tc := ⟨.hbm, 28, rfl⟩
abbrev main_call1_cst : Ref sig .tc := ⟨.hbm, 29, rfl⟩
abbrev main_call1_v14 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_1 : Ref sig .tc := ⟨.hbm, 43, rfl⟩
abbrev main_v14 : Ref sig .tc := ⟨.hbm, 44, rfl⟩
abbrev main_v15 : Ref sig .tc := ⟨.hbm, 45, rfl⟩
abbrev main_c : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_cst_3 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_c_4 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_5 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_cst_6 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_c_7 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_cst_8 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_9 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_c_10 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_cst_11 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_cst_12 : Ref sig .tc := ⟨.hbm, 127, rfl⟩
abbrev main_call5_v0 : Ref sig .tc := ⟨.hbm, 128, rfl⟩
abbrev main_call5_v1 : Ref sig .tc := ⟨.hbm, 129, rfl⟩
abbrev main_call5_v2 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_c_13 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_cst_14 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_cst_15 : Ref sig .tc := ⟨.hbm, 149, rfl⟩
abbrev main_call6_v0 : Ref sig .tc := ⟨.hbm, 150, rfl⟩
abbrev main_call6_v1 : Ref sig .tc := ⟨.hbm, 151, rfl⟩
abbrev main_call6_v2 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_c_16 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_cst_17 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_cst_18 : Ref sig .tc := ⟨.hbm, 171, rfl⟩
abbrev main_call7_v0 : Ref sig .tc := ⟨.hbm, 172, rfl⟩
abbrev main_call7_v1 : Ref sig .tc := ⟨.hbm, 173, rfl⟩
abbrev main_call7_v2 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_c_19 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_cst_20 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_cst_21 : Ref sig .tc := ⟨.hbm, 193, rfl⟩
abbrev main_call8_v0 : Ref sig .tc := ⟨.hbm, 194, rfl⟩
abbrev main_call8_v1 : Ref sig .tc := ⟨.hbm, 195, rfl⟩
abbrev main_call8_v2 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_c_22 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_cst_23 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_cst_24 : Ref sig .tc := ⟨.hbm, 215, rfl⟩
abbrev main_call9_v0 : Ref sig .tc := ⟨.hbm, 216, rfl⟩
abbrev main_call9_v1 : Ref sig .tc := ⟨.hbm, 217, rfl⟩
abbrev main_call9_v2 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_c_25 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_cst_26 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_cst_27 : Ref sig .tc := ⟨.hbm, 237, rfl⟩
abbrev main_call10_v0 : Ref sig .tc := ⟨.hbm, 238, rfl⟩
abbrev main_call10_v1 : Ref sig .tc := ⟨.hbm, 239, rfl⟩
abbrev main_call10_v2 : Ref sig .tc := ⟨.hbm, 240, rfl⟩
abbrev main_v157 : Ref sig .tc := ⟨.hbm, 241, rfl⟩
abbrev main_v158 : Ref sig .tc := ⟨.hbm, 242, rfl⟩
abbrev main_v159 : Ref sig .tc := ⟨.hbm, 243, rfl⟩
abbrev main_c_28 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_cst_29 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_v168 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩
abbrev main_cst_30 : Ref sig .tc := ⟨.hbm, 259, rfl⟩
abbrev main_call11_v0 : Ref sig .tc := ⟨.hbm, 260, rfl⟩
abbrev main_call11_v1 : Ref sig .tc := ⟨.hbm, 261, rfl⟩
abbrev main_call11_v2 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_c_31 : Ref sig .tc := ⟨.hbm, 266, rfl⟩
abbrev main_v176 : Ref sig .tc := ⟨.hbm, 267, rfl⟩
abbrev main_v177 : Ref sig .tc := ⟨.hbm, 268, rfl⟩
abbrev main_v178 : Ref sig .tc := ⟨.hbm, 269, rfl⟩
abbrev main_v179 : Ref sig .tc := ⟨.hbm, 270, rfl⟩
abbrev main_v180 : Ref sig .tc := ⟨.hbm, 271, rfl⟩
abbrev main_cst_32 : Ref sig .tc := ⟨.hbm, 272, rfl⟩
abbrev main_v181 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_v185 : Ref sig .tc := ⟨.hbm, 277, rfl⟩
abbrev main_v186 : Ref sig .tc := ⟨.hbm, 278, rfl⟩
abbrev main_v187 : Ref sig .tc := ⟨.hbm, 279, rfl⟩
abbrev main_v188 : Ref sig .tc := ⟨.hbm, 280, rfl⟩
abbrev main_cst_33 : Ref sig .tc := ⟨.hbm, 281, rfl⟩
abbrev main_call12_v0 : Ref sig .tc := ⟨.hbm, 282, rfl⟩
abbrev main_call12_v1 : Ref sig .tc := ⟨.hbm, 283, rfl⟩
abbrev main_call12_v2 : Ref sig .tc := ⟨.hbm, 284, rfl⟩
abbrev main_v189 : Ref sig .tc := ⟨.hbm, 285, rfl⟩
abbrev main_v190 : Ref sig .tc := ⟨.hbm, 286, rfl⟩
abbrev main_v191 : Ref sig .tc := ⟨.hbm, 287, rfl⟩
abbrev main_c_34 : Ref sig .tc := ⟨.hbm, 288, rfl⟩
abbrev main_v192 : Ref sig .tc := ⟨.hbm, 289, rfl⟩
abbrev main_v193 : Ref sig .tc := ⟨.hbm, 290, rfl⟩
abbrev main_v194 : Ref sig .tc := ⟨.hbm, 291, rfl⟩
abbrev main_v195 : Ref sig .tc := ⟨.hbm, 292, rfl⟩
abbrev main_v196 : Ref sig .tc := ⟨.hbm, 293, rfl⟩
abbrev main_cst_35 : Ref sig .tc := ⟨.hbm, 294, rfl⟩
abbrev main_v197 : Ref sig .tc := ⟨.hbm, 295, rfl⟩
abbrev main_v198 : Ref sig .tc := ⟨.hbm, 296, rfl⟩
abbrev main_v199 : Ref sig .tc := ⟨.hbm, 297, rfl⟩
abbrev main_v200 : Ref sig .tc := ⟨.hbm, 298, rfl⟩
abbrev main_v201 : Ref sig .tc := ⟨.hbm, 299, rfl⟩
abbrev main_v202 : Ref sig .tc := ⟨.hbm, 300, rfl⟩
abbrev main_v203 : Ref sig .tc := ⟨.hbm, 301, rfl⟩
abbrev main_v204 : Ref sig .tc := ⟨.hbm, 302, rfl⟩
abbrev main_cst_36 : Ref sig .tc := ⟨.hbm, 303, rfl⟩
abbrev main_call13_v0 : Ref sig .tc := ⟨.hbm, 304, rfl⟩
abbrev main_call13_v1 : Ref sig .tc := ⟨.hbm, 305, rfl⟩
abbrev main_call13_v2 : Ref sig .tc := ⟨.hbm, 306, rfl⟩
abbrev main_v205 : Ref sig .tc := ⟨.hbm, 307, rfl⟩
abbrev main_v206 : Ref sig .tc := ⟨.hbm, 308, rfl⟩
abbrev main_v207 : Ref sig .tc := ⟨.hbm, 309, rfl⟩
abbrev main_c_37 : Ref sig .tc := ⟨.hbm, 310, rfl⟩
abbrev main_v208 : Ref sig .tc := ⟨.hbm, 311, rfl⟩
abbrev main_v209 : Ref sig .tc := ⟨.hbm, 312, rfl⟩
abbrev main_v210 : Ref sig .tc := ⟨.hbm, 313, rfl⟩
abbrev main_v211 : Ref sig .tc := ⟨.hbm, 314, rfl⟩
abbrev main_v212 : Ref sig .tc := ⟨.hbm, 315, rfl⟩
abbrev main_cst_38 : Ref sig .tc := ⟨.hbm, 316, rfl⟩
abbrev main_v213 : Ref sig .tc := ⟨.hbm, 317, rfl⟩
abbrev main_v214 : Ref sig .tc := ⟨.hbm, 318, rfl⟩
abbrev main_v215 : Ref sig .tc := ⟨.hbm, 319, rfl⟩
abbrev main_v216 : Ref sig .tc := ⟨.hbm, 320, rfl⟩
abbrev main_v217 : Ref sig .tc := ⟨.hbm, 321, rfl⟩
abbrev main_v218 : Ref sig .tc := ⟨.hbm, 322, rfl⟩
abbrev main_v219 : Ref sig .tc := ⟨.hbm, 323, rfl⟩
abbrev main_v220 : Ref sig .tc := ⟨.hbm, 324, rfl⟩
abbrev main_cst_39 : Ref sig .tc := ⟨.hbm, 325, rfl⟩
abbrev main_call14_v0 : Ref sig .tc := ⟨.hbm, 326, rfl⟩
abbrev main_call14_v1 : Ref sig .tc := ⟨.hbm, 327, rfl⟩
abbrev main_call14_v2 : Ref sig .tc := ⟨.hbm, 328, rfl⟩
abbrev main_v221 : Ref sig .tc := ⟨.hbm, 329, rfl⟩
abbrev main_v222 : Ref sig .tc := ⟨.hbm, 330, rfl⟩
abbrev main_v223 : Ref sig .tc := ⟨.hbm, 331, rfl⟩
abbrev main_c_40 : Ref sig .tc := ⟨.hbm, 332, rfl⟩
abbrev main_v224 : Ref sig .tc := ⟨.hbm, 333, rfl⟩
abbrev main_v225 : Ref sig .tc := ⟨.hbm, 334, rfl⟩
abbrev main_v226 : Ref sig .tc := ⟨.hbm, 335, rfl⟩
abbrev main_v227 : Ref sig .tc := ⟨.hbm, 336, rfl⟩
abbrev main_v228 : Ref sig .tc := ⟨.hbm, 337, rfl⟩
abbrev main_cst_41 : Ref sig .tc := ⟨.hbm, 338, rfl⟩
abbrev main_v229 : Ref sig .tc := ⟨.hbm, 339, rfl⟩
abbrev main_v230 : Ref sig .tc := ⟨.hbm, 340, rfl⟩
abbrev main_v231 : Ref sig .tc := ⟨.hbm, 341, rfl⟩
abbrev main_v232 : Ref sig .tc := ⟨.hbm, 342, rfl⟩
abbrev main_v233 : Ref sig .tc := ⟨.hbm, 343, rfl⟩
abbrev main_v234 : Ref sig .tc := ⟨.hbm, 344, rfl⟩
abbrev main_v235 : Ref sig .tc := ⟨.hbm, 345, rfl⟩
abbrev main_v236 : Ref sig .tc := ⟨.hbm, 346, rfl⟩
abbrev main_cst_42 : Ref sig .tc := ⟨.hbm, 347, rfl⟩
abbrev main_call15_v0 : Ref sig .tc := ⟨.hbm, 348, rfl⟩
abbrev main_call15_v1 : Ref sig .tc := ⟨.hbm, 349, rfl⟩
abbrev main_call15_v2 : Ref sig .tc := ⟨.hbm, 350, rfl⟩
abbrev main_v237 : Ref sig .tc := ⟨.hbm, 351, rfl⟩
abbrev main_v238 : Ref sig .tc := ⟨.hbm, 352, rfl⟩
abbrev main_v239 : Ref sig .tc := ⟨.hbm, 353, rfl⟩
abbrev main_c_43 : Ref sig .tc := ⟨.hbm, 354, rfl⟩
abbrev main_v240 : Ref sig .tc := ⟨.hbm, 355, rfl⟩
abbrev main_v241 : Ref sig .tc := ⟨.hbm, 356, rfl⟩
abbrev main_v242 : Ref sig .tc := ⟨.hbm, 357, rfl⟩
abbrev main_v243 : Ref sig .tc := ⟨.hbm, 358, rfl⟩
abbrev main_v244 : Ref sig .tc := ⟨.hbm, 359, rfl⟩
abbrev main_cst_44 : Ref sig .tc := ⟨.hbm, 360, rfl⟩
abbrev main_v245 : Ref sig .tc := ⟨.hbm, 361, rfl⟩
abbrev main_v246 : Ref sig .tc := ⟨.hbm, 362, rfl⟩
abbrev main_v247 : Ref sig .tc := ⟨.hbm, 363, rfl⟩
abbrev main_v248 : Ref sig .tc := ⟨.hbm, 364, rfl⟩
abbrev main_v249 : Ref sig .tc := ⟨.hbm, 365, rfl⟩
abbrev main_v250 : Ref sig .tc := ⟨.hbm, 366, rfl⟩
abbrev main_v251 : Ref sig .tc := ⟨.hbm, 367, rfl⟩
abbrev main_v252 : Ref sig .tc := ⟨.hbm, 368, rfl⟩
abbrev main_cst_45 : Ref sig .tc := ⟨.hbm, 369, rfl⟩
abbrev main_call16_v0 : Ref sig .tc := ⟨.hbm, 370, rfl⟩
abbrev main_call16_v1 : Ref sig .tc := ⟨.hbm, 371, rfl⟩
abbrev main_call16_v2 : Ref sig .tc := ⟨.hbm, 372, rfl⟩
abbrev main_v253 : Ref sig .tc := ⟨.hbm, 373, rfl⟩
abbrev main_v254 : Ref sig .tc := ⟨.hbm, 374, rfl⟩
abbrev main_v255 : Ref sig .tc := ⟨.hbm, 375, rfl⟩
abbrev main_c_46 : Ref sig .tc := ⟨.hbm, 376, rfl⟩
abbrev main_v256 : Ref sig .tc := ⟨.hbm, 377, rfl⟩
abbrev main_v257 : Ref sig .tc := ⟨.hbm, 378, rfl⟩
abbrev main_v258 : Ref sig .tc := ⟨.hbm, 379, rfl⟩
abbrev main_v259 : Ref sig .tc := ⟨.hbm, 380, rfl⟩
abbrev main_v260 : Ref sig .tc := ⟨.hbm, 381, rfl⟩
abbrev main_cst_47 : Ref sig .tc := ⟨.hbm, 382, rfl⟩
abbrev main_v261 : Ref sig .tc := ⟨.hbm, 383, rfl⟩
abbrev main_v262 : Ref sig .tc := ⟨.hbm, 384, rfl⟩
abbrev main_v263 : Ref sig .tc := ⟨.hbm, 385, rfl⟩
abbrev main_v264 : Ref sig .tc := ⟨.hbm, 386, rfl⟩
abbrev main_v265 : Ref sig .tc := ⟨.hbm, 387, rfl⟩
abbrev main_v266 : Ref sig .tc := ⟨.hbm, 388, rfl⟩
abbrev main_v267 : Ref sig .tc := ⟨.hbm, 389, rfl⟩
abbrev main_v268 : Ref sig .tc := ⟨.hbm, 390, rfl⟩
abbrev main_cst_48 : Ref sig .tc := ⟨.hbm, 391, rfl⟩
abbrev main_call17_v0 : Ref sig .tc := ⟨.hbm, 392, rfl⟩
abbrev main_call17_v1 : Ref sig .tc := ⟨.hbm, 393, rfl⟩
abbrev main_call17_v2 : Ref sig .tc := ⟨.hbm, 394, rfl⟩
abbrev main_v269 : Ref sig .tc := ⟨.hbm, 395, rfl⟩
abbrev main_v270 : Ref sig .tc := ⟨.hbm, 396, rfl⟩

abbrev nD : Nat := 1
abbrev τ : Topo := Topo.v7x

variable {F : FTy → Type} [FloatOps F]
-- ==== Proof.Straight.lean ====
/-
# The kernel as one straight program per device

The printed kernel branches on the device's place on the axis, written out four times. Here the same
operations are written once, with the place as a variable: `prog c` is the sequence of operations device `c` carries
out. `body_eq` says the printed kernel, once the device has read its number, is `prog c`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen
open Idealize.ShloMosaic Idealize.SL.Sem

variable {F : FTy → Type} [FloatOps F]

/-! ## The slots -/

theorem inbX (k : Fin 4) : ∀ a, (![k.val, 0, 0] : Fin 3 → Nat) a + S1x128x512.size a ≤ S4x128x512.size a := by revert k; decide
theorem inbR (k : Fin 4) : ∀ a, (![k.val, 0, 0] : Fin 3 → Nat) a + S1x512x2.size a ≤ S4x512x2.size a := by revert k; decide
theorem inbW (k : Fin 4) : ∀ a, (![k.val, 0, 0] : Fin 3 → Nat) a + S1x128x8.size a ≤ S4x128x8.size a := by revert k; decide
theorem inbS (k : Fin 4) : ∀ a, (![k.val] : Fin 1 → Nat) a + S1.size a ≤ S4.size a := by revert k; decide

/-- Slot `k` of a buffer of four blocks, of tokens, of router columns, of routing weights. -/
abbrev rX (k : Fin 4) : Rect S4x128x512 := Rect.unit (s := S4x128x512) ![k.val, 0, 0] S1x128x512.size (inbX k)
abbrev rR (k : Fin 4) : Rect S4x512x2 := Rect.unit (s := S4x512x2) ![k.val, 0, 0] S1x512x2.size (inbR k)
abbrev rW (k : Fin 4) : Rect S4x128x8 := Rect.unit (s := S4x128x8) ![k.val, 0, 0] S1x128x8.size (inbW k)

theorem packedX (k : Fin 4) : (rX k).PackedRows (EltTy.packing .bf16) := by revert k; decide
theorem wordsX (k : Fin 4) : (rX k).WholeWords (EltTy.packing .bf16) := by revert k; decide

abbrev xM : Memref sig .tc .vmem S128x512 .f32 := Memref.whole cc0_stg0_0
abbrev routerM : Memref sig .tc .vmem S512x2 .f32 := Memref.whole cc0_stg1_0
abbrev w1M : Memref sig .tc .vmem S2x512x1024 .f32 := Memref.whole cc0_stg2_0
abbrev w2M : Memref sig .tc .vmem S2x1024x512 .f32 := Memref.whole cc0_stg3_0
abbrev oM : Memref sig .tc .vmem S128x512 .f32 := Memref.whole cc0_stg4_0
abbrev xgM : Memref sig .tc .vmem S4x128x512 .bf16 := Memref.whole cc0_scratch0
abbrev rgM : Memref sig .tc .vmem S4x512x2 .f32 := Memref.whole cc0_scratch1
abbrev wgM : Memref sig .tc .vmem S4x128x8 .f32 := Memref.whole cc0_scratch2
abbrev stM : Memref sig .tc .vmem S4x128x512 .bf16 := Memref.whole cc0_scratch3
abbrev rsM : Memref sig .tc .vmem S4x128x512 .bf16 := Memref.whole cc0_scratch4

/-- A slot as the copies name it: its leading axis of size one dropped. -/
abbrev slX (m : Memref sig .tc .vmem S4x128x512 .bf16) (k : Fin 4) : Memref sig .tc .vmem S128x512 .bf16 :=
  (m.slice (rX k) (fun _ => rfl)).squeeze S128x512 squeezes_S1x128x512_S128x512
abbrev slR (m : Memref sig .tc .vmem S4x512x2 .f32) (k : Fin 4) : Memref sig .tc .vmem S512x2 .f32 :=
  (m.slice (rR k) (fun _ => rfl)).squeeze S512x2 squeezes_S1x512x2_S512x2
abbrev slW (m : Memref sig .tc .vmem S4x128x8 .f32) (k : Fin 4) : Memref sig .tc .vmem S128x8 .f32 :=
  (m.slice (rW k) (fun _ => rfl)).squeeze S128x8 squeezes_S1x128x8_S128x8

/-- Semaphore `k` of an array of four. -/
abbrev sm (A : DmaSems sig S4) (k : Fin 4) : DmaSem sig :=
  ((A.slice (Rect.unit (s := S4) ![k.val] S1.size (inbS k))).squeeze S_ squeezes_S1_S_).sem

abbrev xSnd : DmaSems sig S4 := cc0_scratch5
abbrev xRcv : DmaSems sig S4 := cc0_scratch6
abbrev rSnd : DmaSems sig S4 := cc0_scratch7
abbrev rRcv : DmaSems sig S4 := cc0_scratch8
abbrev wSnd : DmaSems sig S4 := cc0_scratch9
abbrev wRcv : DmaSems sig S4 := cc0_scratch10
abbrev pSnd : DmaSems sig S4 := cc0_scratch11
abbrev pRcv : DmaSems sig S4 := cc0_scratch12

/-- The runtime's barrier semaphore. -/
abbrev barS : Sem sig := (SemArray.scalar (sig.barrier 0 rfl) : Sems sig S_).sem

theorem wxX {m : Memref sig .tc .vmem S4x128x512 .bf16} (h : m.IsWhole) (k : Fin 4) : (slX m k).view.WordExact :=
  (h.wordExact_slice rfl _ (wordsX k)).reshape _ _

/-! ## The operations -/

abbrev P (F : FTy → Type) (α : Type) := Prog (TpuEff nD τ sig (Elt F) Λ₀ .tc) α

def loadX (m : Memref sig .tc .vmem S4x128x512 .bf16) (k : Fin 4) : P F (Vec F S1x128x512 .bf16) :=
  Prog.lift (.load m (rX k).toLoadRect (View.loadsAt_vmem h_S1x128x512))
def loadR (m : Memref sig .tc .vmem S4x512x2 .f32) (k : Fin 4) : P F (Vec F S1x512x2 .f32) :=
  Prog.lift (.load m (rR k).toLoadRect (View.loadsAt_vmem h_S1x512x2))
def loadW (m : Memref sig .tc .vmem S4x128x8 .f32) (k : Fin 4) : P F (Vec F S1x128x8 .f32) :=
  Prog.lift (.load m (rW k).toLoadRect (View.loadsAt_vmem h_S1x128x8))

def storeX (m : Memref sig .tc .vmem S4x128x512 .bf16) (hm : m.IsWhole) (k : Fin 4) (v : FVec F S1x128x512 .bf16) : P F PUnit :=
  Prog.lift (.store m (rX k) v Finset.univ (View.stores_vmem h_S1x128x512 (hm.storeExact_slice rfl _ (packedX k)) (fun _ => rfl)) (.inl rfl))
def storeR (m : Memref sig .tc .vmem S4x512x2 .f32) (k : Fin 4) (v : FVec F S1x512x2 .f32) : P F PUnit :=
  Prog.lift (.store m (rR k) v Finset.univ (View.stores_vmem_bits_univ h_S1x512x2 rfl) (.inl rfl))
def storeW (m : Memref sig .tc .vmem S4x128x8 .f32) (k : Fin 4) (v : FVec F S1x128x8 .f32) : P F PUnit :=
  Prog.lift (.store m (rW k) v Finset.univ (View.stores_vmem_bits_univ h_S1x128x8 rfl) (.inl rfl))

/-- A whole slot copied to a slot of device `d`: the sender's semaphore, the receiver's. -/
def sendX (src : Memref sig .tc .vmem S4x128x512 .bf16) (hs : src.IsWhole) (ks : Fin 4) (d : Dev nD)
    (dst : Memref sig .tc .vmem S4x128x512 .bf16) (hd : dst.IsWhole) (kd : Fin 4) (s r : DmaSem sig) : P F PUnit :=
  Prog.lift (.enqueueDma (slX src ks) (.remote (Dev.tc d) (slX dst kd) (.dma s)) (.dma r) (wxX hs ks) (wxX hd kd) ⟨⟨rfl, Or.inl rfl⟩, trivial⟩)
def sendR (src : Memref sig .tc .vmem S4x512x2 .f32) (ks : Fin 4) (d : Dev nD)
    (dst : Memref sig .tc .vmem S4x512x2 .f32) (kd : Fin 4) (s r : DmaSem sig) : P F PUnit :=
  Prog.lift (.enqueueDma (slR src ks) (.remote (Dev.tc d) (slR dst kd) (.dma s)) (.dma r)
    ((View.wordExact_bits rfl).reshape _ _) ((View.wordExact_bits rfl).reshape _ _) ⟨⟨rfl, Or.inl rfl⟩, trivial⟩)
def sendW (src : Memref sig .tc .vmem S4x128x8 .f32) (ks : Fin 4) (d : Dev nD)
    (dst : Memref sig .tc .vmem S4x128x8 .f32) (kd : Fin 4) (s r : DmaSem sig) : P F PUnit :=
  Prog.lift (.enqueueDma (slW src ks) (.remote (Dev.tc d) (slW dst kd) (.dma s)) (.dma r)
    ((View.wordExact_bits rfl).reshape _ _) ((View.wordExact_bits rfl).reshape _ _) ⟨⟨rfl, Or.inl rfl⟩, trivial⟩)

def waitX (s : DmaSem sig) (src : Memref sig .tc .vmem S4x128x512 .bf16) (hs : src.IsWhole) (ks : Fin 4)
    (dst : Memref sig .tc .vmem S4x128x512 .bf16) (hd : dst.IsWhole) (kd : Fin 4) : P F PUnit :=
  Prog.lift (.waitDma2 s (slX src ks) (slX dst kd) (wxX hs ks) (wxX hd kd))
def waitR (s : DmaSem sig) (src dst : Memref sig .tc .vmem S4x512x2 .f32) (ks kd : Fin 4) : P F PUnit :=
  Prog.lift (.waitDma2 s (slR src ks) (slR dst kd) ((View.wordExact_bits rfl).reshape _ _) ((View.wordExact_bits rfl).reshape _ _))
def waitW (s : DmaSem sig) (src dst : Memref sig .tc .vmem S4x128x8 .f32) (ks kd : Fin 4) : P F PUnit :=
  Prog.lift (.waitDma2 s (slW src ks) (slW dst kd) ((View.wordExact_bits rfl).reshape _ _) ((View.wordExact_bits rfl).reshape _ _))

theorem hxg : xgM.IsWhole := Memref.isWhole_whole _
theorem hst : stM.IsWhole := Memref.isWhole_whole _
theorem hrs : rsM.IsWhole := Memref.isWhole_whole _

/-! ## The values computed between them -/

/-- The device's place on the axis, as the program reads it. -/
def place (c : Dev nD) : BitVec 32 := Scalar.remsi (Scalar.divsi (Dev.word c) 1#32) 4#32

/-- The four gathered router blocks and the device's tokens to the routing weights of those tokens. -/
def weights (r0 r1 r2 r3 : Vec F S1x512x2 .f32) (x : Vec F S128x512 .f32) : FVec F S128x8 .f32 :=
  k0_pay19 (k0_pay16 r0) (k0_pay17 r1) (k0_pay18 r2) r3 x

/-- The device's two experts applied to one block of tokens, weighted. -/
def expert (p : BitVec 32) (w1 : FVec F S2x512x1024 .bf16) (w2 : FVec F S2x1024x512 .bf16) (x : Vec F S1x128x512 .bf16) (w : Vec F S1x128x8 .f32) :
    FVec F S1x128x512 .bf16 :=
  k0_pay27 (k0_pay22 p w) (k0_pay23 p w) (k0_pay24 w1 w2 x) (k0_pay25 w1 w2 x)

/-- The four blocks that come back, summed. -/
def total (p0 p1 p2 p3 : Vec F S1x128x512 .bf16) : FVec F S128x512 .f32 :=
  k0_pay1 (k0_pay48 p0) (k0_pay49 p1) p2 p3

/-! ## The program -/

/-- One step per slot, in the order of the slots. -/
def each (f : Fin 4 → P F PUnit) : P F PUnit := do f 0; f 1; f 2; f 3

/-- The step at every slot but the device's own. -/
def others (c : Dev nD) (f : Fin 4 → P F PUnit) : P F PUnit := each fun j => if j = c then Prog.ret ⟨⟩ else f j

def signals (c : Dev nD) : P F PUnit := others c fun j => semSignalWord j barS 1#32
def fillR (c : Dev nD) : P F PUnit := do
  let r ← Prog.lift (.load routerM (Rect.unit (s := S512x2) ![0, 0] S512x2.size inb_S512x2_S512x2_0_0).toLoadRect (View.loadsAt_vmem h_S512x2))
  let _ ← loadR rgM c
  storeR rgM c (k0_pay2 r)
def fillX (c : Dev nD) : P F PUnit := do
  let x ← Prog.lift (.load xM (Rect.unit (s := S128x512) ![0, 0] S128x512.size inb_S128x512_S128x512_0_0).toLoadRect (View.loadsAt_vmem h_S128x512))
  let _ ← loadX xgM c
  storeX xgM hxg c (k0_pay3 x)
def sendsR (c : Dev nD) : P F PUnit := others c fun j => sendR rgM c j rgM c (sm rSnd j) (sm rRcv c)
def sendsX (c : Dev nD) : P F PUnit := others c fun j => sendX xgM hxg c j xgM hxg c (sm xSnd j) (sm xRcv c)
def waitsR (c : Dev nD) : P F PUnit := others c fun j => waitR (sm rRcv j) rgM rgM j j
def fillW (c : Dev nD) : P F PUnit := do
  let r0 ← loadR rgM 0
  let r1 ← loadR rgM 1
  let r2 ← loadR rgM 2
  let r3 ← loadR rgM 3
  let x ← Prog.lift (.load xM (Rect.unit (s := S128x512) ![0, 0] S128x512.size inb_S128x512_S128x512_0_0).toLoadRect (View.loadsAt_vmem h_S128x512))
  let _ ← loadW wgM c
  storeW wgM c (k0_pay10 (weights r0 r1 r2 r3 x))
def sendsW (c : Dev nD) : P F PUnit := others c fun j => sendW wgM c j wgM c (sm wSnd j) (sm wRcv c)
def chunk (c : Dev nD) (w1 : FVec F S2x512x1024 .bf16) (w2 : FVec F S2x1024x512 .bf16) (o : Fin 4) : P F PUnit := do
  if o = c then Prog.ret ⟨⟩ else do
    waitX (sm xRcv o) xgM hxg o xgM hxg o
    waitW (sm wRcv o) wgM wgM o o
  let x ← loadX xgM o
  let w ← loadW wgM o
  let _ ← loadX stM o
  storeX stM hst o (expert (place c) w1 w2 x w)
  if o = c then do
    let _ ← loadX rsM o
    storeX rsM hrs o (expert (place c) w1 w2 x w)
  else sendX stM hst o o rsM hrs c (sm pSnd o) (sm pRcv c)
def waitsP (c : Dev nD) : P F PUnit := others c fun j => waitX (sm pRcv j) stM hst j rsM hrs j
def finish : P F PUnit := do
  let p0 ← loadX rsM 0
  let p1 ← loadX rsM 1
  let p2 ← loadX rsM 2
  let p3 ← loadX rsM 3
  let _ ← Prog.lift (.load oM (Rect.unit (s := S128x512) ![0, 0] S128x512.size inb_S128x512_S128x512_0_0).toLoadRect (View.loadsAt_vmem h_S128x512))
  Prog.lift (.store oM (Rect.unit (s := S128x512) ![0, 0] S128x512.size inb_S128x512_S128x512_0_0) (total p0 p1 p2 p3) Finset.univ
    (View.stores_vmem_bits_univ h_S128x512 rfl) (.inl rfl))
def drains (c : Dev nD) : P F PUnit := others c fun j => do
  waitR (sm rSnd j) rgM rgM c c
  waitX (sm xSnd j) xgM hxg c xgM hxg c
  waitW (sm wSnd j) wgM wgM c c
  waitX (sm pSnd j) rsM hrs c stM hst j

def prog (c : Dev nD) : P F PUnit := do
  signals c
  semWaitWord barS 3#32
  fillR c
  fillX c
  sendsR c
  sendsX c
  let w1 ← Prog.lift (.load w1M (Rect.unit (s := S2x512x1024) ![0, 0, 0] S2x512x1024.size inb_S2x512x1024_S2x512x1024_0_0_0).toLoadRect (View.loadsAt_vmem h_S2x512x1024))
  let w2 ← Prog.lift (.load w2M (Rect.unit (s := S2x1024x512) ![0, 0, 0] S2x1024x512.size inb_S2x1024x512_S2x1024x512_0_0_0).toLoadRect (View.loadsAt_vmem h_S2x1024x512))
  waitsR c
  fillW c
  sendsW c
  each (chunk c (k0_pay14 w1) (k0_pay15 w2))
  waitsP c
  finish
  drains c

/-- The printed kernel on the launch's buffers. -/
abbrev body : P F PUnit :=
  cc0_body (F := F) xM (Memref.isWhole_whole _) routerM (Memref.isWhole_whole _) w1M (Memref.isWhole_whole _) w2M (Memref.isWhole_whole _)
    oM (Memref.isWhole_whole _) xgM (Memref.isWhole_whole _) rgM (Memref.isWhole_whole _) wgM (Memref.isWhole_whole _)
    stM (Memref.isWhole_whole _) rsM (Memref.isWhole_whole _) xSnd xRcv rSnd rRcv wSnd wRcv pSnd pRcv

set_option maxRecDepth 65536 in
/-- The printed kernel reads the device's number and carries on as that device's program. -/
theorem body_eq : ∃ k : Dev nD → P F PUnit, body (F := F) = Prog.op .deviceId k ∧ ∀ c, k c = prog c := by
  refine ⟨_, rfl, Fin.forall_iff_castSucc.mpr ⟨?_, Fin.forall_iff_castSucc.mpr ⟨?_, Fin.forall_iff_castSucc.mpr ⟨?_, fun i => ?_⟩⟩⟩⟩
  · show _ = prog 3
    with_unfolding_all rfl
  · show _ = prog 2
    with_unfolding_all rfl
  · show _ = prog 1
    with_unfolding_all rfl
  · obtain rfl := Subsingleton.elim i 0
    show _ = prog 0
    with_unfolding_all rfl

end Cert.Moe
-- ==== Proof.Slots.lean ====
/-
# Owning a slot, and the operations on it

A slot of a buffer is owned at the contents it reads (`owns`). One rule per operation of the program: a load returns the
contents, a store replaces them, a copy to another device lends a share of the source and hands the destination over,
a wait collects what its cell's round pays.
-/
module

public import proofs.«01_k».proof.Proof.Straight
public import Idealize.ShloMosaic.Lib.MemrefSat

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The launch's own ghost state beside the exchange's: a cell's duties are named by a device. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The program run on device `c`. -/
abbrev wpc (c : Dev nD) {α : Type} (p : P F α) (Q : α → sProp 𝕄) : sProp 𝕄 :=
  wp frame (wpE (defs₀ (F := F)) 𝒱₀ (c : Thread nD τ) none) Set.univ p Q

/-- A memref of device `c` owned at a share and contents. -/
abbrev own (c : Dev nD) {sp : Space} {s : Shape} {e : EltTy} (m : Memref sig .tc sp s e) (q : PosShare TreeShare)
    (X : s.Idx → Elt F e) : sProp 𝕄 := owns (c : Thread nD τ) m q X

theorem wpc_frame (c : Dev nD) {α : Type} {p : P F α} {Q : α → sProp 𝕄} {R S : sProp 𝕄} (h : R ⊢ wpc c p Q) :
    iprop(R ∗ S) ⊢ wpc c p (fun a => iprop(Q a ∗ S)) := (sep_mono_left h).trans (wp_frame_r _ _ _)

theorem wpc_bind (c : Dev nD) {α β : Type} {p : P F α} {k : α → P F β} {Q : α → sProp 𝕄} {Q' : β → sProp 𝕄} {R : sProp 𝕄}
    (h : R ⊢ wpc c p Q) (h' : ∀ a, Q a ⊢ wpc c (k a) Q') : R ⊢ wpc c (p >>= k) Q' := by
  unfold wpc; rw [wp_bind]; exact h.trans (wp_mono _ _ _ h')

/-! ## Loads and stores -/

section LoadStore
variable (c : Dev nD) {s : Shape} {e : EltTy} (m : Memref sig .tc .vmem s e) (r : Rect s) (hr : ∀ a, r.stride a = 1)

theorem wp_load_own (q : PosShare TreeShare) (X : r.shape.Idx → Elt F e) (hl : m.view.LoadsAt r.toLoadRect) :
    own c (m.slice r hr) q X ⊢ wpc c (Prog.lift (.load m r.toLoadRect hl)) fun v => iprop(⌜v = X⌝ ∗ own c (m.slice r hr) q X) := by
  unfold own owns
  iintro ⟨%f, %hf, H⟩
  iapply (wp_load_rect 𝒱₀ (c : Thread nD τ) none Set.univ (m := m) (r := r) (Finset.Subset.refl _)) $$ H
  iintro H
  rw [wp_ret]; imodintro
  isplitr; · ipureintro; exact hf
  iexists f
  isplitr; · ipureintro; exact hf
  iexact H

theorem wp_store_own (X : r.shape.Idx → Elt F e) (w : r.shape.Idx → Elt F e) (hx : (m.access r).Stores Finset.univ)
    (hm : (Finset.univ : Finset r.shape.Idx) = Finset.univ ∨ ∀ a, r.stride a = 1) :
    own c (m.slice r hr) fullShare X ⊢ wpc c (Prog.lift (.store m r w Finset.univ hx hm)) fun _ => own c (m.slice r hr) fullShare w := by
  unfold own owns
  iintro ⟨%f, %hf, H⟩
  iapply (wp_store 𝒱₀ (c : Thread nD τ) none Set.univ (m := m) (r := r) (Mk := Finset.univ) (S := (m.access r).set) (f := f)
      (by rw [View.setOn_univ])) $$ H
  iintro H
  rw [wp_ret]; imodintro
  iexists _
  isplitr; swap
  · iexact H
  ipureintro
  exact View.read_write_univ _ _

end LoadStore

/-! ## A copy of one slot to another device -/

section Send
variable {sp : Space} {s s' : Shape} {e : EltTy}

/-- Owning a slot with its unit axis dropped is owning the slot, at the contents in the same order. -/
theorem own_squeeze (c : Dev nD) (m : Memref sig .tc sp s e) (h : s.Squeezes s') (q : PosShare TreeShare) (X : s.Idx → Elt F e) :
    own c (m.squeeze s' h) q (fun j => X (Shape.reshapeEquiv h.numel_eq j)) = own c m q X := by
  unfold own owns
  refine congrArg _ (funext fun f => ?_)
  have hset : (m.squeeze s' h).view.set = m.view.set := View.set_reshape _ _
  have hread : ((m.squeeze s' h).view.read (Elt F) f = fun j => X (Shape.reshapeEquiv h.numel_eq j)) = (m.view.read (Elt F) f = X) := by
    refine propext ⟨fun hf => ?_, fun hf => ?_⟩
    · funext j
      have := congrFun hf ((Shape.reshapeEquiv h.numel_eq).symm j)
      rw [Equiv.apply_symm_apply] at this
      rw [← this]
      show m.view.read (Elt F) f j = m.view.read (Elt F) f (Shape.reshapeEquiv h.numel_eq ((Shape.reshapeEquiv h.numel_eq).symm j))
      rw [Equiv.apply_symm_apply]
    · rw [← hf]; rfl
  rw [hset, hread]

/-- A copy of a memref of device `c` to one of device `d`: a share `q` of the source is lent to the sender's cell and the
    destination, holding the source's contents, is what the receiver's cell pays. The credit of the receiving cell comes off what
    `c` owes; the credit of the sending cell comes back to `c`. -/
theorem wp_send (Rd : Schedule (GSem nD τ sig) (Fin 4) 𝕄) (c d : Dev nD)
    {src : Memref sig .tc sp s e} {dst : Memref sig (Dev.tc d : Thread nD τ).2.kind sp s e}
    {sS sR : DmaSem sig} {hsc : dst.view.ref.isScScratch = false} {hsrc : src.view.WordExact} {hdst : dst.view.WordExact}
    {hsem : DmaTarget.Typed sp (.dma sR) (.remote (Dev.tc d : Thread nD τ) dst (.dma sS) hsc)}
    {κ₁ κ₂ : ℕ} {d₁ d₂ : Fin 4} {q : PosShare TreeShare} {X Y : s.Idx → Elt F e} (N : ℕ)
    (hd₁ : d₁ ∈ Rd.duties ((c : Thread nD τ), .dma sS) 0) (hd₂ : d₂ ∈ Rd.duties ((d : Thread nD τ), .dma sR) 0)
    (hN : dst.view.amount (.dma sR : SemLoc sig) = N)
    (hk₁ : Rd.amount ((c : Thread nD τ), .dma sS) 0 d₁ = N) (hk₂ : Rd.amount ((d : Thread nD τ), .dma sR) 0 d₂ = N)
    {O₀ : CellTallies nD τ sig Unit} (O : CellTallies nD τ sig Unit) (hO : O₀ = O + tallyAt ((d : Thread nD τ), .dma sR) () N) {W : Waits sig Unit}
    (hpay₁ : owns (c : Thread nD τ) src q X ⊢ Rd.payload ((c : Thread nD τ), .dma sS) 0 d₁)
    (hpay₂ : owns (d : Thread nD τ) dst fullShare X ⊢ Rd.payload ((d : Thread nD τ), .dma sR) 0 d₂) :
    iprop(cellInv ER Rd κ₁ ((c : Thread nD τ), .dma sS) ∗ cellInv ER Rd κ₂ ((d : Thread nD τ), .dma sR)
        ∗ owns (c : Thread nD τ) src q X ∗ owns (d : Thread nD τ) dst fullShare Y ∗ owes (c : Thread nD τ) O₀ W
        ∗ dutyTok ER ((c : Thread nD τ), .dma sS) 0 d₁ ∗ reached ER ((c : Thread nD τ), .dma sS) 0
        ∗ dutyTok ER ((d : Thread nD τ), .dma sR) 0 d₂ ∗ reached ER ((d : Thread nD τ), .dma sR) 0)
      ⊢ wpc c (Prog.lift (.enqueueDma src (.remote (Dev.tc d) dst (.dma sS) hsc) (.dma sR) hsrc hdst hsem))
          fun _ => iprop(cred (tallyAt ((c : Thread nD τ), .dma sS) () N) ∗ owes (c : Thread nD τ) O W) := by
  unfold owns
  iintro ⟨#HI1, #HI2, ⟨%fs, %hfs, Hs⟩, ⟨%fd, %hfd, Hd⟩, HO, Ht1, #Hr1, Ht2, #Hr2⟩
  iapply (Rounds.wp_send_pointsTo 𝒱₀ ER Rd (c : Thread nD τ) none (src := src) (dst := dst) (κ₁ := κ₁) (κ₂ := κ₂)
      (r₁ := 0) (r₂ := 0) (d₁ := d₁) (d₂ := d₂) (q := q) (fs := fs) (fd := fd) hd₁ hd₂ () () N hN hk₁ hk₂ O hO (W := W)
      (by subst hfs; exact (owns_intro (c : Thread nD τ) src q fs).trans hpay₁)
      (by subst hfs
          have h := owns_intro (Ix := Unit) (Name := ℕ) (U := UU) (Lvl := ℕ) (d : Thread nD τ) dst fullShare (dst.view.write (Elt F) fd (src.view.read (Elt F) fs) Finset.univ)
          rw [View.read_write_univ] at h
          exact h.trans hpay₂)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro H
  rw [wp_ret]; imodintro
  iexact H

/-- `wp_send` between two slots with their unit axes dropped, owned as the slots themselves. -/
theorem wp_send_own (Rd : Schedule (GSem nD τ sig) (Fin 4) 𝕄) (c d : Dev nD) {m m' : Memref sig .tc sp s e} (h : s.Squeezes s')
    {sS sR : DmaSem sig} {hsc : (m'.squeeze s' h).view.ref.isScScratch = false} {hsrc : (m.squeeze s' h).view.WordExact} {hdst : (m'.squeeze s' h).view.WordExact}
    {hsem : DmaTarget.Typed sp (.dma sR) (.remote (Dev.tc d : Thread nD τ) (m'.squeeze s' h : Memref sig (Dev.tc d : Thread nD τ).2.kind sp s' e) (.dma sS) hsc)}
    {κ₁ κ₂ : ℕ} {d₁ d₂ : Fin 4} {q : PosShare TreeShare} {X Y : s.Idx → Elt F e} (N : ℕ)
    (hd₁ : d₁ ∈ Rd.duties ((c : Thread nD τ), .dma sS) 0) (hd₂ : d₂ ∈ Rd.duties ((d : Thread nD τ), .dma sR) 0)
    (hN : (m'.squeeze s' h).view.amount (.dma sR : SemLoc sig) = N)
    (hk₁ : Rd.amount ((c : Thread nD τ), .dma sS) 0 d₁ = N) (hk₂ : Rd.amount ((d : Thread nD τ), .dma sR) 0 d₂ = N)
    {O₀ : CellTallies nD τ sig Unit} (O : CellTallies nD τ sig Unit) (hO : O₀ = O + tallyAt ((d : Thread nD τ), .dma sR) () N) {W : Waits sig Unit}
    (hpay₁ : own c m q X ⊢ Rd.payload ((c : Thread nD τ), .dma sS) 0 d₁)
    (hpay₂ : own d m' fullShare X ⊢ Rd.payload ((d : Thread nD τ), .dma sR) 0 d₂) :
    iprop(cellInv ER Rd κ₁ ((c : Thread nD τ), .dma sS) ∗ cellInv ER Rd κ₂ ((d : Thread nD τ), .dma sR)
        ∗ own c m q X ∗ own d m' fullShare Y ∗ owes (c : Thread nD τ) O₀ W
        ∗ dutyTok ER ((c : Thread nD τ), .dma sS) 0 d₁ ∗ reached ER ((c : Thread nD τ), .dma sS) 0
        ∗ dutyTok ER ((d : Thread nD τ), .dma sR) 0 d₂ ∗ reached ER ((d : Thread nD τ), .dma sR) 0)
      ⊢ wpc c (Prog.lift (.enqueueDma (m.squeeze s' h)
            (.remote (Dev.tc d) (m'.squeeze s' h : Memref sig (Dev.tc d : Thread nD τ).2.kind sp s' e) (.dma sS) hsc) (.dma sR) hsrc hdst hsem))
          fun _ => iprop(cred (tallyAt ((c : Thread nD τ), .dma sS) () N) ∗ owes (c : Thread nD τ) O W) := by
  rw [← own_squeeze c m h q X] at hpay₁ ⊢
  rw [← own_squeeze d m' h fullShare X] at hpay₂
  rw [← own_squeeze d m' h fullShare Y]
  exact wp_send Rd c d N hd₁ hd₂ hN hk₁ hk₂ O hO hpay₁ hpay₂

/-- A wait for the credit of a whole slot on a cell of one round with one duty: what the duty pays. -/
theorem wp_wait_own (Rd : Schedule (GSem nD τ sig) (Fin 4) 𝕄) (c : Dev nD) {sp' : Space} {s₁ : Shape} {e₁ : EltTy}
    {src : Memref sig .tc sp' s₁ e₁} {dst : Memref sig .tc sp s e} {sm : DmaSem sig}
    {hsrc : src.view.WordExact} {hdst : dst.view.WordExact} {κ : ℕ} {d : Fin 4} {O : CellTallies nD τ sig Unit} {W : Waits sig Unit} (N : ℕ) (hN : dst.view.dmaCredit = N)
    (hd : Rd.duties ((c : Thread nD τ), .dma sm) 0 = {d}) (hk : Rd.amount ((c : Thread nD τ), .dma sm) 0 d = N) :
    iprop(cellInv ER Rd κ ((c : Thread nD τ), .dma sm) ∗ cred (tallyAt ((c : Thread nD τ), .dma sm) () N) ∗ owes (c : Thread nD τ) O W
        ∗ MayWait (c : Thread nD τ) (.dma sm) () O ∗ atPos ER ((c : Thread nD τ), .dma sm) 0 ∅ 0)
      ⊢ wpc c (Prog.lift (.waitDma2 sm src dst hsrc hdst))
          fun _ => iprop(owes (c : Thread nD τ) O (insert (.dma sm, ()) W) ∗ atPos ER ((c : Thread nD τ), .dma sm) 1 ∅ 0
            ∗ Rd.payload ((c : Thread nD τ), .dma sm) 0 d) := by
  subst hN
  iintro ⟨#HI, Hc, HO, HM, Ha⟩
  iapply (Rounds.wp_wait_rest_token 𝒱₀ ER Rd (c : Thread nD τ) none (κ := κ)
      (wpE_waitDma2_eq 𝒱₀ (c : Thread nD τ) none Set.univ) (Set.mem_univ _) () (O := O) (W := W) (R := 0) (m := 0) (T := ∅)
      (by rw [Nat.zero_add]; unfold Schedule.expect Schedule.amountOf; rw [hd, Finset.sum_singleton, hk])) $$ [Hc HO HM Ha]
  · isplitr; · iexact HI
    isplitl [Hc]; · iexact Hc
    isplitl [HO]; · iexact HO
    isplitl [HM]; · iexact HM
    iexact Ha
  iintro ⟨HO, Ha, #Hr, Hp⟩
  rw [wp_ret]; imodintro
  isplitl [HO]; · iexact HO
  isplitl [Ha]; · iexact Ha
  iapply (BIBase.Entails.of_eq (show bigSep (Rd.duties ((c : Thread nD τ), .dma sm) 0 \ ∅) (fun d => Rd.payload ((c : Thread nD τ), .dma sm) 0 d)
    = Rd.payload ((c : Thread nD τ), .dma sm) 0 d by rw [Finset.sdiff_empty, hd, bigSep_singleton])) $$ Hp

end Send

/-! ## One step per slot -/

theorem bigSep4 (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]
  rfl

/-- A step with what it does not touch, then the rest of the program. -/
theorem wpc_seq (c : Dev nD) {α β : Type} {p : P F α} {k : α → P F β} {Q : α → sProp 𝕄} {Q' : β → sProp 𝕄} {R X : sProp 𝕄}
    (h : R ⊢ wpc c p Q) (h' : ∀ a, iprop(Q a ∗ X) ⊢ wpc c (k a) Q') : iprop(R ∗ X) ⊢ wpc c (p >>= k) Q' :=
  wpc_bind c (wpc_frame c h) h'

theorem wpc_mono (c : Dev nD) {α : Type} {p : P F α} {Q Q' : α → sProp 𝕄} (h : ∀ a, Q a ⊢ Q' a) : wpc c p Q ⊢ wpc c p Q' := wp_mono _ _ _ h

/-- Running a step at every slot: what each slot needs, what it leaves, and what is threaded through. -/
theorem wp_each (c : Dev nD) (f : Fin 4 → P F PUnit) (R S : Fin 4 → sProp 𝕄) (I : ℕ → sProp 𝕄)
    (h : ∀ j : Fin 4, iprop(R j ∗ I j.val) ⊢ wpc c (f j) fun _ => iprop(S j ∗ I (j.val + 1))) :
    iprop(bigSep Finset.univ R ∗ I 0) ⊢ wpc c (each f) fun _ => iprop(bigSep Finset.univ S ∗ I 4) := by
  rw [bigSep4, bigSep4]
  unfold each
  refine BIBase.Entails.trans (Q := iprop((R 0 ∗ I 0) ∗ R 1 ∗ R 2 ∗ R 3)) ?_ (wpc_seq c (h 0) fun _ => ?_)
  · iintro ⟨⟨H0, H1, H2, H3⟩, HI⟩; iframe H0 HI H1 H2 H3
  refine BIBase.Entails.trans (Q := iprop((R 1 ∗ I 1) ∗ S 0 ∗ R 2 ∗ R 3)) ?_ (wpc_seq c (h 1) fun _ => ?_)
  · iintro ⟨⟨H0, HI⟩, H1, H2, H3⟩; iframe H0 HI H1 H2 H3
  refine BIBase.Entails.trans (Q := iprop((R 2 ∗ I 2) ∗ S 0 ∗ S 1 ∗ R 3)) ?_ (wpc_seq c (h 2) fun _ => ?_)
  · iintro ⟨⟨H0, HI⟩, H1, H2, H3⟩; iframe H0 HI H1 H2 H3
  refine BIBase.Entails.trans (Q := iprop((R 3 ∗ I 3) ∗ S 0 ∗ S 1 ∗ S 2)) ?_ ((wpc_frame c (h 3)).trans (wpc_mono c fun _ => ?_))
  · iintro ⟨⟨H0, HI⟩, H1, H2, H3⟩; iframe H0 HI H1 H2 H3
  · iintro ⟨⟨H0, HI⟩, H1, H2, H3⟩; iframe H0 HI H1 H2 H3

end Cert.Moe
-- ==== Proof.Schedule.lean ====
/-
# The exchange: who waits, who signals, and what each landing carries

Four devices. Device `c` owns one block of tokens, the router weights of two experts and those experts. It gathers the others'
router weights, computes the routing weights of its tokens, gathers the others' tokens and routing weights, applies its experts
to every block and returns each block's contribution to its owner, who sums the four.

Every semaphore cell runs one round. A device's barrier cell is signalled once by each other device; with its signal a device
hands over the slots the signalled device will write. Every copy has two cells, one on the sender and one on the receiver; the
receiver's pays the slot written at the contents of the source, the sender's pays the lent share of the source back.
-/
module

public import proofs.«01_k».proof.Proof.Slots

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The values -/

/-- What the devices hold: their tokens, their experts' router weights, their experts. -/
structure Blocks (F : FTy → Type) where
  x : Dev nD → Vec F S128x512 .f32
  r : Dev nD → Vec F S512x2 .f32
  w1 : Dev nD → Vec F S2x512x1024 .f32
  w2 : Dev nD → Vec F S2x1024x512 .f32

namespace Blocks
variable (T : Blocks F)

/-- The router weights, the tokens and the routing weights of device `c`, as they are sent. -/
def R (c : Dev nD) : FVec F S1x512x2 .f32 := k0_pay2 (T.r c)
def X (c : Dev nD) : FVec F S1x128x512 .bf16 := k0_pay3 (T.x c)
def W (c : Dev nD) : FVec F S1x128x8 .f32 := k0_pay10 (weights (T.R 0) (T.R 1) (T.R 2) (T.R 3) (T.x c))
/-- Device `z`'s experts on device `o`'s tokens. -/
def P (z o : Dev nD) : FVec F S1x128x512 .bf16 := expert (place z) (k0_pay14 (T.w1 z)) (k0_pay15 (T.w2 z)) (T.X o) (T.W o)
/-- Device `c`'s block of the result. -/
def O (c : Dev nD) : FVec F S128x512 .f32 := total (T.P 0 c) (T.P 1 c) (T.P 2 c) (T.P 3 c)

end Blocks

/-! ## Slots -/

abbrev xS (m : Memref sig .tc .vmem S4x128x512 .bf16) (k : Fin 4) : Memref sig .tc .vmem S1x128x512 .bf16 := m.slice (rX k) (fun _ => rfl)
abbrev rS (m : Memref sig .tc .vmem S4x512x2 .f32) (k : Fin 4) : Memref sig .tc .vmem S1x512x2 .f32 := m.slice (rR k) (fun _ => rfl)
abbrev wS (m : Memref sig .tc .vmem S4x128x8 .f32) (k : Fin 4) : Memref sig .tc .vmem S1x128x8 .f32 := m.slice (rW k) (fun _ => rfl)

/-- A memref of device `c` at whatever it holds. -/
abbrev some_ (c : Dev nD) {sp : Space} {s : Shape} {e : EltTy} (m : Memref sig .tc sp s e) : sProp 𝕄 := iprop(∃ X, own (F := F) c m fullShare X)

/-- The four quarters of a slot that is read by three copies and the device itself. -/
def shr (j : Fin 4) : PosShare TreeShare := match j with
  | 0 => fullShare.left.left
  | 1 => fullShare.left.right
  | 2 => fullShare.right.left
  | 3 => fullShare.right.right

/-- What a device holds of slot `j` of what it gathers: the whole of another's block; of its own, the quarter not lent. -/
def kept (c : Dev nD) (j : Fin 4) : PosShare TreeShare := if j = c then shr c else fullShare

/-! ## The cells -/

/-- The eight arrays of semaphores: tokens, router weights, routing weights, contributions — sent and received. -/
abbrev arr (K : Fin 8) : DmaSems sig S4 := match K with
  | 0 => xSnd | 1 => xRcv | 2 => rSnd | 3 => rRcv | 4 => wSnd | 5 => wRcv | 6 => pSnd | 7 => pRcv

abbrev dcell (c : Dev nD) (K : Fin 8) (j : Fin 4) : GSem nD τ sig := ((c : Thread nD τ), .dma (sm (arr K) j))
abbrev bcell (c : Dev nD) : GSem nD τ sig := ((c : Thread nD τ), .reg barS)

def kind (s : DmaSem sig) : ℕ := (s.val - 5) / 4
def idx (s : DmaSem sig) : Fin 4 := ⟨(s.val - 5) % 4, Nat.mod_lt _ (by decide)⟩

theorem sm_val : ∀ (K : Fin 8) (j : Fin 4), (sm (arr K) j).val = 5 + (4 * K.val + j.val) := by decide
theorem kind_sm (K : Fin 8) (j : Fin 4) : kind (sm (arr K) j) = K.val := by unfold kind; rw [sm_val]; omega
theorem idx_sm (K : Fin 8) (j : Fin 4) : idx (sm (arr K) j) = j :=
  Fin.ext (by show ((sm (arr K) j).val - 5) % 4 = j.val; rw [sm_val]; omega)

/-- The credit of a slot of tokens, of router weights, of routing weights. -/
def NX : ℕ := (slX xgM 0).view.dmaCredit
def NR : ℕ := (slR rgM 0).view.dmaCredit
def NW : ℕ := (slW wgM 0).view.dmaCredit

theorem credX (m : Memref sig .tc .vmem S4x128x512 .bf16) (k : Fin 4) : (slX m k).view.dmaCredit = NX := rfl
theorem credR (m : Memref sig .tc .vmem S4x512x2 .f32) (k : Fin 4) : (slR m k).view.dmaCredit = NR := rfl
theorem credW (m : Memref sig .tc .vmem S4x128x8 .f32) (k : Fin 4) : (slW m k).view.dmaCredit = NW := rfl
theorem NX_pos : 0 < NX := View.dmaCredit_pos _ (by decide)
theorem NR_pos : 0 < NR := View.dmaCredit_pos _ (by decide)
theorem NW_pos : 0 < NW := View.dmaCredit_pos _ (by decide)

def amt (K : ℕ) : ℕ := if K = 2 ∨ K = 3 then NR else if K = 4 ∨ K = 5 then NW else NX
theorem amt_pos (K : ℕ) : 0 < amt K := by
  unfold amt; split
  · exact NR_pos
  · split
    · exact NW_pos
    · exact NX_pos

/-! ## What the cells pay -/

/-- With its signal to device `c`, device `d` hands over its slot `c` of the four buffers device `c` writes there. -/
def barPay (d c : Dev nD) : sProp 𝕄 := iprop(some_ (F := F) d (rS rgM c) ∗ some_ (F := F) d (xS xgM c) ∗ some_ (F := F) d (wS wgM c) ∗ some_ (F := F) d (xS rsM c))

section
variable (T : Blocks F)

/-- What the cell of kind `K` and index `j` pays device `c`. -/
def dmaPay (c : Dev nD) (j : Fin 4) (K : ℕ) : sProp 𝕄 := match K with
  | 0 => own c (xS xgM c) (shr j) (T.X c)
  | 1 => own c (xS xgM j) fullShare (T.X j)
  | 2 => own c (rS rgM c) (shr j) (T.R c)
  | 3 => own c (rS rgM j) fullShare (T.R j)
  | 4 => own c (wS wgM c) (shr j) (T.W c)
  | 5 => own c (wS wgM j) fullShare (T.W j)
  | 6 => own c (xS stM j) fullShare (T.P c j)
  | 7 => own c (xS rsM j) fullShare (T.P j c)
  | _ => iprop(emp)

instance barPay_storable (d c : Dev nD) : BI.Storable (upEmb : UEmb _ 𝕄) (barPay (F := F) d c) := by
  unfold barPay some_ own; infer_instance

instance dmaPay_storable (c : Dev nD) (j : Fin 4) (K : ℕ) : BI.Storable (upEmb : UEmb _ 𝕄) (dmaPay T c j K) := by
  unfold dmaPay own; split <;> infer_instance

/-- One round, round 0. -/
def Rd : Schedule (GSem nD τ sig) (Fin 4) 𝕄 where
  duties g r := if r = 0 ∧ g.1.2 = .tc then
      (match g.2 with
        | .reg _ => Finset.univ.erase g.1.1
        | .dma s => if 5 ≤ s.val ∧ idx s ≠ g.1.1 then {0} else ∅)
    else ∅
  amount g _ _ := match g.2 with
    | .reg _ => 1
    | .dma s => amt (kind s)
  payload g _ d := match g.2 with
    | .reg _ => barPay d g.1.1
    | .dma s => dmaPay T g.1.1 (idx s) (kind s)
  amount_pos g _ _ _ := by
    rcases g with ⟨t, s | s⟩
    · exact Nat.one_pos
    · exact amt_pos _
  unitless _ := False

instance Rd_storable (g : GSem nD τ sig) (r : ℕ) (d : Fin 4) : BI.Storable (upEmb : UEmb _ 𝕄) ((Rd T).payload g r d) := by
  rcases g with ⟨t, s | s⟩
  · exact barPay_storable d t.1
  · exact dmaPay_storable T t.1 (idx s) (kind s)

variable (c : Dev nD)

theorem duties_bar : (Rd T).duties (bcell c) 0 = Finset.univ.erase c := by dsimp only [Rd]; exact if_pos ⟨rfl, rfl⟩
theorem duties_dma {K : Fin 8} {j : Fin 4} (h : j ≠ c) : (Rd T).duties (dcell c K j) 0 = {0} := by
  dsimp only [Rd]
  rw [if_pos ⟨rfl, rfl⟩, if_pos ⟨by rw [sm_val]; omega, by rw [idx_sm]; exact h⟩]
theorem duties_own (K : Fin 8) (r : ℕ) : (Rd T).duties (dcell c K c) r = ∅ := by
  dsimp only [Rd]
  have h : ¬ (5 ≤ (sm (arr K) c).val ∧ idx (sm (arr K) c) ≠ c) := fun h => h.2 (idx_sm K c)
  rw [if_neg h, ite_self]
theorem duties_later (g : GSem nD τ sig) : ∀ r, 1 ≤ r → (Rd T).duties g r = ∅ :=
  fun r hr => by dsimp only [Rd]; exact if_neg fun h => by omega
theorem amount_bar (d : Fin 4) : (Rd T).amount (bcell c) 0 d = 1 := rfl
theorem amount_dma (K : Fin 8) (j d : Fin 4) : (Rd T).amount (dcell c K j) 0 d = amt K.val := by dsimp only [Rd]; rw [kind_sm]
theorem payload_bar (d : Fin 4) : (Rd T).payload (bcell c) 0 d = barPay d c := rfl
theorem payload_dma (K : Fin 8) (j d : Fin 4) : (Rd T).payload (dcell c K j) 0 d = dmaPay T c j K.val := by dsimp only [Rd]; rw [kind_sm, idx_sm]
theorem expect_bar : (Rd T).expect (bcell c) 0 = 3 := by
  unfold Schedule.expect Schedule.amountOf
  rw [duties_bar, Finset.sum_congr rfl fun d _ => amount_bar T c d, Finset.sum_const, Finset.card_erase_of_mem (Finset.mem_univ _)]
  rfl

end

/-! ## What a device owes, and the order of the cells -/

abbrev Tally := CellTallies nD τ sig Unit

/-- What is still owed of `D`, one part per slot, before slot `n`. -/
def tail (D : Fin 4 → Tally) (n : ℕ) : Tally := ∑ i : Fin 4, if n ≤ i.val then D i else 0

theorem tail_four (D : Fin 4 → Tally) : tail D 4 = 0 := Finset.sum_eq_zero fun i _ => if_neg (by have := i.isLt; omega)
theorem tail_step (D : Fin 4 → Tally) (j : Fin 4) : tail D j.val = tail D (j.val + 1) + D j := by
  unfold tail
  rw [← Finset.sum_erase_add Finset.univ _ (Finset.mem_univ j), if_pos le_rfl,
    ← Finset.sum_erase_add Finset.univ (fun i : Fin 4 => if j.val + 1 ≤ i.val then D i else 0) (Finset.mem_univ j), if_neg (by omega), add_zero]
  refine congrArg (· + _) (Finset.sum_congr rfl fun i hi => ?_)
  have : i.val ≠ j.val := fun h => (Finset.mem_erase.mp hi).1 (Fin.ext h)
  by_cases h : j.val ≤ i.val
  · rw [if_pos h, if_pos (by omega)]
  · rw [if_neg h, if_neg (by omega)]

/-- A unit to every other device's barrier cell; a block's credit to every other device's receiving cell of kind `K`. -/
def owedB (c : Dev nD) (j : Fin 4) : Tally := if j = c then 0 else tallyAt (bcell j) () 1
def owedD (c : Dev nD) (K : Fin 8) (j : Fin 4) : Tally := if j = c then 0 else tallyAt (dcell j K c) () (amt K.val)

/-- What device `c` owes from the contributions on; from the routing weights on; from the tokens on; from the router weights on;
    at launch. -/
def oP (c : Dev nD) : Tally := tail (owedD c 7) 0
def oW (c : Dev nD) : Tally := oP c + tail (owedD c 5) 0
def oX (c : Dev nD) : Tally := oW c + tail (owedD c 1) 0
def oR (c : Dev nD) : Tally := oX c + tail (owedD c 3) 0
def O₀ (c : Dev nD) : Tally := oR c + tail (owedB c) 0

def L (g : GSem nD τ sig) : Finset Unit := if g.1.2 = .tc then {()} else ∅
/-- The order of the cells by kind: the barrier first, then router weights, tokens and routing weights, contributions received;
    staging and sending cells before them all. -/
def dlv (K : ℕ) : ℕ := if K = 3 then 2 else if K = 1 ∨ K = 5 then 3 else if K = 7 then 4 else 0
def lv (g : GSem nD τ sig) (_ : Unit) : ℕ := match g.2 with
  | .reg _ => 1
  | .dma s => dlv (kind s)

theorem L_of_ne (g : GSem nD τ sig) (h : g.1.2 ≠ .tc) : L g = ∅ := if_neg h
theorem lv_bar (c : Dev nD) : lv (bcell c) () = 1 := rfl
theorem lv_dma (c : Dev nD) (K : Fin 8) (j : Fin 4) : lv (dcell c K j) () = dlv K.val := by dsimp only [lv]; rw [kind_sm]

/-- Every cell owed comes after level `n`. -/
def Above (n : ℕ) (O : Tally) : Prop := ∀ g u, 0 < O g u → g.1.2 = .tc ∧ n < lv g u

theorem above_zero (n : ℕ) : Above n 0 := fun g u h => absurd h (lt_irrefl 0)
theorem above_add {n : ℕ} {O O' : Tally} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_sum {n : ℕ} {ι : Type} (S : Finset ι) (D : ι → Tally) (h : ∀ i, Above n (D i)) : Above n (∑ i ∈ S, D i) := by
  classical
  induction S using Finset.induction_on with
  | empty => rw [Finset.sum_empty]; exact above_zero n
  | insert a S ha ih => rw [Finset.sum_insert ha]; exact above_add (h a) ih
theorem above_tail {n : ℕ} {D : Fin 4 → Tally} (h : ∀ j, Above n (D j)) (k : ℕ) : Above n (tail D k) :=
  above_sum _ _ fun i => by split; · exact h i
                            · exact above_zero n
theorem above_tally {n : ℕ} {g : GSem nD τ sig} {k : ℕ} (hg : g.1.2 = .tc) (h : n < lv g ()) : Above n (tallyAt g () k) := fun g' u hg' => by
  rw [tallyAt_apply] at hg'
  by_cases h' : g' = g ∧ u = ()
  · rw [h'.1]; exact ⟨hg, h⟩
  · rw [if_neg h'] at hg'; exact absurd hg' (lt_irrefl 0)
theorem above_mono {n n' : ℕ} {O : Tally} (h : n ≤ n') (hO : Above n' O) : Above n O := fun g u hg => ⟨(hO g u hg).1, lt_of_le_of_lt h (hO g u hg).2⟩

theorem above_owedB (c : Dev nD) (j : Fin 4) : Above 0 (owedB c j) := by
  unfold owedB; split
  · exact above_zero 0
  · exact above_tally rfl Nat.one_pos
theorem above_owedD (c : Dev nD) (K : Fin 8) {n : ℕ} (h : n < dlv K.val) (j : Fin 4) : Above n (owedD c K j) := by
  unfold owedD; split
  · exact above_zero n
  · exact above_tally rfl (by rw [lv_dma]; exact h)

theorem above_oP (c : Dev nD) : Above 3 (oP c) := above_tail (above_owedD c 7 (by decide)) 0
theorem above_oW (c : Dev nD) : Above 2 (oW c) := above_add (above_mono (by decide) (above_oP c)) (above_tail (above_owedD c 5 (by decide)) 0)
theorem above_oX (c : Dev nD) : Above 2 (oX c) := above_add (above_oW c) (above_tail (above_owedD c 1 (by decide)) 0)
theorem above_oR (c : Dev nD) : Above 1 (oR c) := above_add (above_mono (by decide) (above_oX c)) (above_tail (above_owedD c 3 (by decide)) 0)
theorem above_O₀ (c : Dev nD) : Above 0 (O₀ c) := above_add (above_mono (by decide) (above_oR c)) (above_tail (above_owedB c) 0)

theorem mayWait (c : Dev nD) (s : SemLoc sig) {n : ℕ} {O : Tally} (hs : lv ((c : Thread nD τ), s) () ≤ n) (hO : Above n O) :
    (levAts L lv : sProp 𝕄) ⊢ MayWait (c : Thread nD τ) s () O :=
  MayOwe.of_cut (L := L) (lev := lv) n (fun p hp => by rw [Finset.mem_singleton.mp hp]; unfold L; rw [if_pos rfl]; exact Finset.mem_singleton_self _)
    (fun g u hg => by unfold L; rw [if_pos (hO g u hg).1]; exact Finset.mem_singleton_self _)
    (fun p hp => by rw [Finset.mem_singleton.mp hp]; exact hs) (fun g u hg => (hO g u hg).2)

end Cert.Moe
-- ==== Proof.Steps.lean ====
/-
# One step of the exchange

What every device knows throughout (the cells' invariants, that their rounds are open, the order of the cells), and one rule each
for a signal, a copy, a wait and a whole-buffer access, in the exchange's own terms. Then the rules for a step at every other
device: one that pays a part of what is owed, one that waits.
-/
module

public import proofs.«01_k».proof.Proof.Schedule

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What every device knows -/

abbrev CellIx := Option (Fin 8 × Fin 4)

/-- The barrier cell and the thirty-two copy cells of a device. -/
abbrev ksem (k : CellIx) : SemLoc sig := match k with
  | none => .reg barS
  | some (K, j) => .dma (sm (arr K) j)
abbrev kcell (ck : Dev nD × CellIx) : GSem nD τ sig := ((ck.1 : Thread nD τ), ksem ck.2)

section
variable (T : Blocks F) (Kn : Dev nD × CellIx → ℕ)

def pers : sProp 𝕄 :=
  iprop((bigSep Finset.univ fun ck : Dev nD × CellIx => cellInv ER (Rd T) (Kn ck) (kcell ck))
    ∗ (bigSep Finset.univ fun ck : Dev nD × CellIx => reached ER (kcell ck) 0) ∗ levAts L lv)

instance pers_persistent : BI.Persistent (pers T Kn) := by unfold pers; infer_instance

theorem pers_inv (ck : Dev nD × CellIx) : pers T Kn ⊢ cellInv ER (Rd T) (Kn ck) (kcell ck) := by
  unfold pers; exact sep_elim_left.trans (bigSep_elim (Finset.mem_univ ck))
theorem pers_reached (ck : Dev nD × CellIx) : pers T Kn ⊢ reached ER (kcell ck) 0 := by
  unfold pers; exact sep_elim_right.trans (sep_elim_left.trans (bigSep_elim (Finset.mem_univ ck)))
theorem pers_lev : pers T Kn ⊢ levAts L lv := by unfold pers; iintro ⟨-, -, H⟩; iexact H

/-! ## Steps -/

/-- Device `c` owes `O`, whatever it has waited for. -/
def owing (c : Dev nD) (O : Tally) : sProp 𝕄 := iprop(∃ W, owes (c : Thread nD τ) O W)

theorem wpc_step (c : Dev nD) {α β : Type} {p : P F α} {k : α → P F β} {Q : α → sProp 𝕄} {Q' : β → sProp 𝕄} {R : sProp 𝕄}
    (h : R ⊢ wpc c p Q) : R ⊢ iprop((∀ a, Q a -∗ wpc c (k a) Q') -∗ wpc c (p >>= k) Q') := by
  unfold wpc; rw [wp_bind]; exact h.trans (wp_wand _ _ _)

theorem send_step (c d : Dev nD) (hd : d ≠ c) {sp : Space} {s s' : Shape} {e : EltTy} {m m' : Memref sig .tc sp s e} (h : s.Squeezes s') (Ks Kr : Fin 8)
    {hsc : (m'.squeeze s' h).view.ref.isScScratch = false} {hsrc : (m.squeeze s' h).view.WordExact} {hdst : (m'.squeeze s' h).view.WordExact}
    {hsem : DmaTarget.Typed sp (.dma (sm (arr Kr) c)) (.remote (Dev.tc d : Thread nD τ) (m'.squeeze s' h : Memref sig (Dev.tc d : Thread nD τ).2.kind sp s' e) (.dma (sm (arr Ks) d)) hsc)}
    {q : PosShare TreeShare} {X : s.Idx → Elt F e} (hA : amt Ks.val = amt Kr.val) (hN : (m'.squeeze s' h).view.dmaCredit = amt Kr.val)
    (O : Tally) (hpay₁ : own c m q X ⊢ dmaPay T c d Ks.val) (hpay₂ : own d m' fullShare X ⊢ dmaPay T d c Kr.val) :
    iprop(pers T Kn ∗ own c m q X ∗ some_ d m' ∗ dutyTok ER (dcell c Ks d) 0 0 ∗ dutyTok ER (dcell d Kr c) 0 0
        ∗ owing c (O + tallyAt (dcell d Kr c) () (amt Kr.val)))
      ⊢ wpc c (Prog.lift (.enqueueDma (m.squeeze s' h)
            (.remote (Dev.tc d) (m'.squeeze s' h : Memref sig (Dev.tc d : Thread nD τ).2.kind sp s' e) (.dma (sm (arr Ks) d)) hsc) (.dma (sm (arr Kr) c)) hsrc hdst hsem))
          fun _ => iprop(cred (tallyAt (dcell c Ks d) () (amt Ks.val)) ∗ owing c O) := by
  unfold owing some_
  iintro ⟨#HP, Hs, ⟨%Y, Hd⟩, Ht1, Ht2, ⟨%W, HO⟩⟩
  iapply (wpc_mono c (Q := fun _ => iprop(cred (tallyAt (dcell c Ks d) () (amt Kr.val)) ∗ owes (c : Thread nD τ) O W)) fun _ => by
    rw [hA]; iintro ⟨H, HO⟩
    isplitl [H]; · iexact H
    iexists W; iexact HO)
  iapply (wp_send_own (Rd T) c d h (κ₁ := Kn (c, some (Ks, d))) (κ₂ := Kn (d, some (Kr, c))) (d₁ := 0) (d₂ := 0) (Y := Y) (amt Kr.val)
    (by rw [duties_dma T c hd]; exact Finset.mem_singleton_self _) (by rw [duties_dma T d hd.symm]; exact Finset.mem_singleton_self _)
    hN (by rw [amount_dma, hA]) (amount_dma T d Kr c 0) O rfl (by rw [payload_dma]; exact hpay₁) (by rw [payload_dma]; exact hpay₂))
  isplitr; · iapply (pers_inv T Kn (c, some (Ks, d))); iexact HP
  isplitr; · iapply (pers_inv T Kn (d, some (Kr, c))); iexact HP
  isplitl [Hs]; · iexact Hs
  isplitl [Hd]; · iexact Hd
  isplitl [HO]; · iexact HO
  isplitl [Ht1]; · iexact Ht1
  isplitr; · iapply (pers_reached T Kn (c, some (Ks, d))); iexact HP
  isplitl [Ht2]; · iexact Ht2
  iapply (pers_reached T Kn (d, some (Kr, c))); iexact HP

theorem wait_step (c j : Dev nD) (hj : j ≠ c) (K : Fin 8) {sp sp' : Space} {s s₁ : Shape} {e e₁ : EltTy}
    {src : Memref sig .tc sp' s₁ e₁} {dst : Memref sig .tc sp s e} {hsrc : src.view.WordExact} {hdst : dst.view.WordExact}
    {O : Tally} (hN : dst.view.dmaCredit = amt K.val) (n : ℕ) (hn : dlv K.val ≤ n) (hO : Above n O)
    (Pay : sProp 𝕄) (hp : dmaPay T c j K.val = Pay) :
    iprop(pers T Kn ∗ cred (tallyAt (dcell c K j) () (amt K.val)) ∗ atPos ER (dcell c K j) 0 ∅ 0 ∗ owing c O)
      ⊢ wpc c (Prog.lift (.waitDma2 (sm (arr K) j) src dst hsrc hdst))
          fun _ => iprop(Pay ∗ atPos ER (dcell c K j) 1 ∅ 0 ∗ owing c O) := by
  subst hp
  unfold owing
  iintro ⟨#HP, Hc, Ha, ⟨%W, HO⟩⟩
  iapply (wpc_mono c fun _ => (show iprop(owes (c : Thread nD τ) O (insert (.dma (sm (arr K) j), ()) W) ∗ atPos ER (dcell c K j) 1 ∅ 0 ∗ (Rd T).payload (dcell c K j) 0 0) ⊢ _ from by
    rw [payload_dma]
    iintro ⟨HO, Ha, Hp⟩
    isplitl [Hp]; · iexact Hp
    isplitl [Ha]; · iexact Ha
    iexists _; iexact HO))
  iapply (wp_wait_own (Rd T) c (κ := Kn (c, some (K, j))) (d := 0) (O := O) (W := W) (amt K.val) hN (duties_dma T c hj) (amount_dma T c K j 0))
  isplitr; · iapply (pers_inv T Kn (c, some (K, j))); iexact HP
  isplitl [Hc]; · iexact Hc
  isplitl [HO]; · iexact HO
  isplitr
  · iapply (mayWait (F := F) c (.dma (sm (arr K) j)) (n := n) (by rw [lv_dma]; exact hn) hO); iapply (pers_lev T Kn); iexact HP
  iexact Ha

theorem signal_step (c d : Dev nD) (hd : d ≠ c) (O : Tally) :
    iprop(pers T Kn ∗ barPay (F := F) c d ∗ dutyTok ER (bcell d) 0 c ∗ owing c (O + tallyAt (bcell d) () 1))
      ⊢ wpc c (semSignalWord d barS 1#32) fun _ => owing (F := F) c O := by
  unfold owing
  iintro ⟨#HP, Hb, Ht, ⟨%W, HO⟩⟩
  iapply (show _ ⊢ wpc c (.op (.semSignal (d : Thread nD τ) barS ((1 : ℕ) : ℤ)) .ret) (fun _ => iprop(∃ W, owes (c : Thread nD τ) O W)) from BIBase.Entails.rfl)
  iapply (Rounds.wp_signal 𝒱₀ ER (Rd T) (c : Thread nD τ) none (dst := (d : Thread nD τ)) (κ := Kn (d, none)) (d := c)
    (by rw [duties_bar]; exact Finset.mem_erase.mpr ⟨hd.symm, Finset.mem_univ _⟩) (amount_bar T d c) () O rfl (W := W)) $$ [Hb Ht HO]
  · isplitr; · iapply (pers_inv T Kn (d, none)); iexact HP
    isplitl [HO]; · iexact HO
    isplitl [Ht]; · iexact Ht
    isplitl [Hb]; · rw [payload_bar]; iexact Hb
    iapply (pers_reached T Kn (d, none)); iexact HP
  iintro HO
  rw [wp_ret]; imodintro
  iexists W; iexact HO

/-- Every device but `c`. -/
def oth (c : Dev nD) (Φ : Fin 4 → sProp 𝕄) : sProp 𝕄 := bigSep (Finset.univ.erase c) Φ

theorem bar_step (c : Dev nD) {O : Tally} (hO : Above 1 O) :
    iprop(pers T Kn ∗ cred (tallyAt (bcell c) () 3) ∗ atPos ER (bcell c) 0 ∅ 0 ∗ owing c O)
      ⊢ wpc c (semWaitWord barS 3#32) fun _ => iprop(oth c (fun d => barPay (F := F) d c) ∗ atPos ER (bcell c) 1 ∅ 0 ∗ owing c O) := by
  unfold owing
  iintro ⟨#HP, Hc, Ha, ⟨%W, HO⟩⟩
  iapply (show _ ⊢ wpc c (.op (.semWait barS ((3 : ℕ) : ℤ)) .ret) _ from BIBase.Entails.rfl)
  iapply (Rounds.wp_wait_rest_token 𝒱₀ ER (Rd T) (c : Thread nD τ) none (κ := Kn (c, none))
      (wpE_semWait_eq 𝒱₀ (c : Thread nD τ) none Set.univ) (Set.mem_univ _) () (O := O) (W := W) (R := 0) (m := 0) (T := ∅)
      (by rw [Nat.zero_add, expect_bar])) $$ [Hc HO Ha]
  · isplitr; · iapply (pers_inv T Kn (c, none)); iexact HP
    isplitl [Hc]; · iexact Hc
    isplitl [HO]; · iexact HO
    isplitr
    · iapply (mayWait (F := F) c (.reg barS) (n := 1) le_rfl hO); iapply (pers_lev T Kn); iexact HP
    iexact Ha
  iintro ⟨HO, Ha, #Hr, Hp⟩
  rw [wp_ret]; imodintro
  isplitl [Hp]
  · iapply (BIBase.Entails.of_eq (show bigSep ((Rd T).duties (bcell c) 0 \ ∅) (fun d => (Rd T).payload (bcell c) 0 d) = oth c (fun d => barPay (F := F) d c) by
      rw [Finset.sdiff_empty, duties_bar]; rfl)) $$ Hp
  isplitl [Ha]; · iexact Ha
  iexists _; iexact HO

/-! ## A step at every other device -/

theorem bigSep_oth (c : Dev nD) (Φ : Fin 4 → sProp 𝕄) : bigSep Finset.univ Φ = iprop(Φ c ∗ oth c Φ) := bigSep_univ_at Φ c

theorem oth_sep (c : Dev nD) (Φ Ψ : Fin 4 → sProp 𝕄) : oth c (fun j => iprop(Φ j ∗ Ψ j)) = iprop(oth c Φ ∗ oth c Ψ) := bigSep_sep' _ _ _

theorem oth_congr (c : Dev nD) {Φ Ψ : Fin 4 → sProp 𝕄} (h : ∀ j, j ≠ c → Φ j = Ψ j) : oth c Φ = oth c Ψ :=
  bigSep_congr fun j hj => h j (Finset.mem_erase.mp hj).1
theorem oth_mono (c : Dev nD) {Φ Ψ : Fin 4 → sProp 𝕄} (h : ∀ j, j ≠ c → Φ j ⊢ Ψ j) : oth c Φ ⊢ oth c Ψ :=
  bigSep_mono fun j hj => h j (Finset.mem_erase.mp hj).1

theorem oth_if (c : Dev nD) (Φ : Fin 4 → sProp 𝕄) : bigSep Finset.univ (fun j => if j = c then iprop(emp) else Φ j) = oth c Φ := by
  rw [bigSep_oth c, if_pos rfl, oth_congr c (Ψ := Φ) fun j hj => if_neg hj]
  exact equiv_iff.mp BI.emp_sep

theorem wp_others (c : Dev nD) (f : Fin 4 → P F PUnit) (R S : Fin 4 → sProp 𝕄) (I : ℕ → sProp 𝕄)
    (h : ∀ j : Fin 4, j ≠ c → iprop(R j ∗ I j.val) ⊢ wpc c (f j) fun _ => iprop(S j ∗ I (j.val + 1))) (hI : I (c : Fin 4).val ⊢ I ((c : Fin 4).val + 1)) :
    iprop(oth c R ∗ I 0) ⊢ wpc c (others c f) fun _ => iprop(oth c S ∗ I 4) := by
  rw [← oth_if c R, ← oth_if c S]
  refine wp_each c _ _ _ I fun j => ?_
  by_cases hj : j = c
  · subst hj
    rw [if_pos rfl, if_pos rfl, if_pos rfl]
    unfold wpc; rw [wp_ret]
    iintro ⟨He, HI⟩
    imodintro
    isplitl [He]; · iexact He
    iapply hI; iexact HI
  · rw [if_neg hj, if_neg hj, if_neg hj]; exact h j hj

/-- Every step pays its part of what is owed. -/
theorem wp_paying (c : Dev nD) (f : Fin 4 → P F PUnit) (R S : Fin 4 → sProp 𝕄) (B : Tally) (D : Fin 4 → Tally) (hD : D c = 0)
    (h : ∀ j : Fin 4, j ≠ c → ∀ O, iprop(R j ∗ pers T Kn ∗ owing c (O + D j)) ⊢ wpc c (f j) fun _ => iprop(S j ∗ owing c O)) :
    iprop(oth c R ∗ pers T Kn ∗ owing c (B + tail D 0)) ⊢ wpc c (others c f) fun _ => iprop(oth c S ∗ owing c B) := by
  refine (wp_others c f R S (fun n => iprop(pers T Kn ∗ owing c (B + tail D n))) (fun j hj => ?_) ?_).trans (wpc_mono c fun _ => ?_)
  · rw [tail_step, ← add_assoc]
    iintro ⟨HR, #HP, HO⟩
    iapply (wpc_mono c (Q := fun _ => iprop((S j ∗ owing c (B + tail D (j.val + 1))) ∗ pers T Kn)) fun _ => by
      iintro ⟨⟨HS, HO⟩, #HP⟩
      isplitl [HS]; · iexact HS
      isplitr; · iexact HP
      iexact HO)
    iapply (wpc_frame c (h j hj _))
    isplitl [HR HO]
    · isplitl [HR]; · iexact HR
      isplitr; · iexact HP
      iexact HO
    iexact HP
  · rw [tail_step, hD, add_zero]
  · rw [tail_four, add_zero]
    iintro ⟨HS, #HP, HO⟩
    isplitl [HS]; · iexact HS
    iexact HO

/-- Every step waits; nothing is paid. -/
theorem wp_waiting (c : Dev nD) (f : Fin 4 → P F PUnit) (R S : Fin 4 → sProp 𝕄) (O : Tally)
    (h : ∀ j : Fin 4, j ≠ c → iprop(R j ∗ pers T Kn ∗ owing c O) ⊢ wpc c (f j) fun _ => iprop(S j ∗ owing c O)) :
    iprop(oth c R ∗ pers T Kn ∗ owing c O) ⊢ wpc c (others c f) fun _ => iprop(oth c S ∗ owing c O) := by
  refine (wp_others c f R S (fun _ => iprop(pers T Kn ∗ owing c O)) (fun j hj => ?_) BIBase.Entails.rfl).trans (wpc_mono c fun _ => ?_)
  · iintro ⟨HR, #HP, HO⟩
    iapply (wpc_mono c (Q := fun _ => iprop((S j ∗ owing c O) ∗ pers T Kn)) fun _ => by
      iintro ⟨⟨HS, HO⟩, #HP⟩
      isplitl [HS]; · iexact HS
      isplitr; · iexact HP
      iexact HO)
    iapply (wpc_frame c (h j hj))
    isplitl [HR HO]
    · isplitl [HR]; · iexact HR
      isplitr; · iexact HP
      iexact HO
    iexact HP
  · iintro ⟨HS, #HP, HO⟩
    isplitl [HS]; · iexact HS
    iexact HO

end

/-! ## Shares of a slot -/

theorem own_shares (c : Dev nD) {sp : Space} {s : Shape} {e : EltTy} (m : Memref sig .tc sp s e) (X : s.Idx → Elt F e) :
    own c m fullShare X = iprop(own c m (shr c) X ∗ oth c fun j => own c m (shr j) X) := by
  rw [← bigSep_oth c (fun j => own c m (shr j) X), bigSep4]
  have h (q : PosShare TreeShare) : own c m q X = iprop(own c m q.left X ∗ own c m q.right X) :=
    equiv_iff.mp ⟨(owns_halves (c : Thread nD τ) m q X).1, (owns_halves (c : Thread nD τ) m q X).2⟩
  rw [h fullShare, h fullShare.left, h fullShare.right]
  exact equiv_iff.mp ⟨BI.sep_assoc, BI.sep_assoc'⟩

/-! ## Whole buffers -/

section Whole
variable (c : Dev nD) {s : Shape} {e : EltTy} (m : Memref sig .tc .vmem s e) (r : Rect s)

theorem load_whole (q : PosShare TreeShare) (X : s.Idx → Elt F e) (v : r.shape.Idx → Elt F e) (hl : m.view.LoadsAt r.toLoadRect)
    (hv : ∀ f, m.view.read (Elt F) f = X → m.view.readAt (Elt F) r.toLoadRect f = v) :
    own c m q X ⊢ wpc c (Prog.lift (.load m r.toLoadRect hl)) fun w => iprop(⌜w = v⌝ ∗ own c m q X) := by
  unfold own owns
  iintro ⟨%f, %hf, H⟩
  iapply (wp_load 𝒱₀ (c : Thread nD τ) none Set.univ (m := m) (View.setOn_subset_set _ _)) $$ H
  iintro H
  rw [wp_ret]; imodintro
  isplitr; · ipureintro; exact hv f hf
  iexists f
  isplitr; · ipureintro; exact hf
  iexact H

theorem store_whole (X w : s.Idx → Elt F e) (v : r.shape.Idx → Elt F e) (hx : (m.access r).Stores Finset.univ)
    (hm : (Finset.univ : Finset r.shape.Idx) = Finset.univ ∨ ∀ a, r.stride a = 1)
    (hv : ∀ f, m.view.read (Elt F) ((m.access r).write (Elt F) f v Finset.univ) = w) :
    own c m fullShare X ⊢ wpc c (Prog.lift (.store m r v Finset.univ hx hm)) fun _ => own c m fullShare w := by
  unfold own owns
  iintro ⟨%f, %hf, H⟩
  iapply (wp_store 𝒱₀ (c : Thread nD τ) none Set.univ (m := m) (r := r) (Mk := Finset.univ) (S := m.view.set) (f := f)
      (View.set_slice_subset _ _)) $$ H
  iintro H
  rw [wp_ret]; imodintro
  iexists _
  isplitr; swap
  · iexact H
  ipureintro; exact hv f

end Whole

theorem hz2 : (![0, 0] : Fin 2 → Nat) = fun _ => 0 := funext fun a => by fin_cases a <;> rfl
theorem hz3 : (![0, 0, 0] : Fin 3 → Nat) = fun _ => 0 := funext fun a => by fin_cases a <;> rfl

end Cert.Moe
-- ==== Proof.Phases.lean ====
/-
# The phases of the exchange

The program of one device, phase by phase: signal and wait on the barrier; store and send the router weights and the tokens;
collect the router weights, compute and send the routing weights; apply the experts to one block after the other; collect and
sum the contributions; wait out the sends.
-/
module

public import proofs.«01_k».proof.Proof.Steps

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The operations on slots -/

section Ops
variable (c : Dev nD) (k : Fin 4) (q : PosShare TreeShare)

theorem loadX_own (m : Memref sig .tc .vmem S4x128x512 .bf16) (X : Vec F S1x128x512 .bf16) :
    own c (xS m k) q X ⊢ wpc c (loadX m k) fun v => iprop(⌜v = X⌝ ∗ own c (xS m k) q X) := wp_load_own c m (rX k) (fun _ => rfl) q X _
theorem loadR_own (m : Memref sig .tc .vmem S4x512x2 .f32) (X : Vec F S1x512x2 .f32) :
    own c (rS m k) q X ⊢ wpc c (loadR m k) fun v => iprop(⌜v = X⌝ ∗ own c (rS m k) q X) := wp_load_own c m (rR k) (fun _ => rfl) q X _
theorem loadW_own (m : Memref sig .tc .vmem S4x128x8 .f32) (X : Vec F S1x128x8 .f32) :
    own c (wS m k) q X ⊢ wpc c (loadW m k) fun v => iprop(⌜v = X⌝ ∗ own c (wS m k) q X) := wp_load_own c m (rW k) (fun _ => rfl) q X _

/-- A store to a slot is printed with a load of the slot before it. -/
theorem fillX_own (m : Memref sig .tc .vmem S4x128x512 .bf16) (hm : m.IsWhole) (X : FVec F S1x128x512 .bf16) :
    some_ c (xS m k) ⊢ wpc c (do let _ ← loadX m k; storeX m hm k X) fun _ => own c (xS m k) fullShare X := by
  unfold some_
  iintro ⟨%Y, H⟩
  iapply (wpc_step c (loadX_own c k fullShare m Y)) $$ H
  iintro %v ⟨-, H⟩
  iapply (wp_store_own c m (rX k) (fun _ => rfl) Y X _ _); iexact H
theorem fillR_own (m : Memref sig .tc .vmem S4x512x2 .f32) (X : FVec F S1x512x2 .f32) :
    some_ c (rS m k) ⊢ wpc c (do let _ ← loadR m k; storeR m k X) fun _ => own c (rS m k) fullShare X := by
  unfold some_
  iintro ⟨%Y, H⟩
  iapply (wpc_step c (loadR_own c k fullShare m Y)) $$ H
  iintro %v ⟨-, H⟩
  iapply (wp_store_own c m (rR k) (fun _ => rfl) Y X _ _); iexact H
theorem fillW_own (m : Memref sig .tc .vmem S4x128x8 .f32) (X : FVec F S1x128x8 .f32) :
    some_ c (wS m k) ⊢ wpc c (do let _ ← loadW m k; storeW m k X) fun _ => own c (wS m k) fullShare X := by
  unfold some_
  iintro ⟨%Y, H⟩
  iapply (wpc_step c (loadW_own c k fullShare m Y)) $$ H
  iintro %v ⟨-, H⟩
  iapply (wp_store_own c m (rW k) (fun _ => rfl) Y X _ _); iexact H

end Ops

section Phases
variable (T : Blocks F) (Kn : Dev nD × CellIx → ℕ) (c : Dev nD)

theorem owedB_self : owedB c c = 0 := if_pos rfl
theorem owedD_self (K : Fin 8) : owedD c K c = 0 := if_pos rfl

/-- A cell of device `c` whose round is closed. -/
abbrev done (K : Fin 8) (j : Fin 4) : sProp 𝕄 := atPos ER (dcell c K j) 1 ∅ 0
abbrev fresh (K : Fin 8) (j : Fin 4) : sProp 𝕄 := atPos ER (dcell c K j) 0 ∅ 0
/-- The credit a wait on a cell of device `c` takes. -/
abbrev credit (K : Fin 8) (j : Fin 4) : sProp 𝕄 := cred (tallyAt (dcell c K j) () (amt K.val))
/-- The right to pay device `d`'s cell. -/
abbrev tok (d : Dev nD) (K : Fin 8) (j : Fin 4) : sProp 𝕄 := dutyTok ER (dcell d K j) 0 0

theorem signals_phase (B : Tally) :
    iprop(oth c (fun j => iprop(barPay (F := F) c j ∗ dutyTok ER (bcell j) 0 c)) ∗ pers T Kn ∗ owing c (B + tail (owedB c) 0))
      ⊢ wpc c (signals c) fun _ => iprop(oth c (fun _ => iprop(emp)) ∗ owing c B) := by
  refine wp_paying T Kn c _ _ _ B (owedB c) (owedB_self c) fun j hj O => ?_
  rw [show owedB c j = tallyAt (bcell j) () 1 from if_neg hj]
  iintro ⟨⟨Hb, Ht⟩, #HP, HO⟩
  iapply (wpc_mono c (Q := fun _ => owing (F := F) c O) fun _ => Laws.emp_sep.2)
  iapply (signal_step T Kn c j hj O)
  isplitr; · iexact HP
  isplitl [Hb]; · iexact Hb
  isplitl [Ht]; · iexact Ht
  iexact HO

theorem fillR_phase :
    iprop(own c routerM fullShare (T.r c) ∗ some_ c (rS rgM c))
      ⊢ wpc c (fillR c) fun _ => iprop(own c (rS rgM c) fullShare (T.R c) ∗ own c routerM fullShare (T.r c)) := by
  unfold fillR
  iintro ⟨Hr, Hs⟩
  iapply (wpc_step c (load_whole c routerM _ fullShare (T.r c) (T.r c) _ fun f hf => by
    rw [← hf]; exact Memref.readAt_unit_zero (Elt F) cc0_stg1_0 hz2 _ f)) $$ Hr
  iintro %r ⟨%hr, Hr⟩
  subst hr
  iapply (wpc_frame c (fillR_own c c rgM _)) $$ [Hs Hr]
  isplitl [Hs]; · iexact Hs
  iexact Hr

theorem fillX_phase :
    iprop(own c xM fullShare (T.x c) ∗ some_ c (xS xgM c))
      ⊢ wpc c (fillX c) fun _ => iprop(own c (xS xgM c) fullShare (T.X c) ∗ own c xM fullShare (T.x c)) := by
  unfold fillX
  iintro ⟨Hr, Hs⟩
  iapply (wpc_step c (load_whole c xM _ fullShare (T.x c) (T.x c) _ fun f hf => by
    rw [← hf]; exact Memref.readAt_unit_zero (Elt F) cc0_stg0_0 hz2 _ f)) $$ Hr
  iintro %r ⟨%hr, Hr⟩
  subst hr
  iapply (wpc_frame c (fillX_own c c xgM hxg _)) $$ [Hs Hr]
  isplitl [Hs]; · iexact Hs
  iexact Hr

theorem sendsR_phase (B : Tally) :
    iprop(oth c (fun j => iprop(own c (rS rgM c) (shr j) (T.R c) ∗ some_ j (rS rgM c) ∗ tok c 2 j ∗ tok j 3 c)) ∗ pers T Kn ∗ owing c (B + tail (owedD c 3) 0))
      ⊢ wpc c (sendsR c) fun _ => iprop(oth c (fun j => credit c 2 j) ∗ owing c B) := by
  refine wp_paying T Kn c _ _ _ B (owedD c 3) (owedD_self c 3) fun j hj O => ?_
  rw [show owedD c 3 j = tallyAt (dcell j 3 c) () (amt 3) from if_neg hj]
  iintro ⟨⟨Hs, Hd, Ht, Ht'⟩, #HP, HO⟩
  iapply (send_step T Kn c j hj squeezes_S1x512x2_S512x2 2 3 rfl (credR rgM c) O BIBase.Entails.rfl BIBase.Entails.rfl)
  isplitr; · iexact HP
  iframe Hs Hd Ht Ht' HO

theorem sendsX_phase (B : Tally) :
    iprop(oth c (fun j => iprop(own c (xS xgM c) (shr j) (T.X c) ∗ some_ j (xS xgM c) ∗ tok c 0 j ∗ tok j 1 c)) ∗ pers T Kn ∗ owing c (B + tail (owedD c 1) 0))
      ⊢ wpc c (sendsX c) fun _ => iprop(oth c (fun j => credit c 0 j) ∗ owing c B) := by
  refine wp_paying T Kn c _ _ _ B (owedD c 1) (owedD_self c 1) fun j hj O => ?_
  rw [show owedD c 1 j = tallyAt (dcell j 1 c) () (amt 1) from if_neg hj]
  iintro ⟨⟨Hs, Hd, Ht, Ht'⟩, #HP, HO⟩
  iapply (send_step T Kn c j hj squeezes_S1x128x512_S128x512 0 1 rfl (credX xgM c) O BIBase.Entails.rfl BIBase.Entails.rfl)
  isplitr; · iexact HP
  iframe Hs Hd Ht Ht' HO

theorem sendsW_phase (B : Tally) :
    iprop(oth c (fun j => iprop(own c (wS wgM c) (shr j) (T.W c) ∗ some_ j (wS wgM c) ∗ tok c 4 j ∗ tok j 5 c)) ∗ pers T Kn ∗ owing c (B + tail (owedD c 5) 0))
      ⊢ wpc c (sendsW c) fun _ => iprop(oth c (fun j => credit c 4 j) ∗ owing c B) := by
  refine wp_paying T Kn c _ _ _ B (owedD c 5) (owedD_self c 5) fun j hj O => ?_
  rw [show owedD c 5 j = tallyAt (dcell j 5 c) () (amt 5) from if_neg hj]
  iintro ⟨⟨Hs, Hd, Ht, Ht'⟩, #HP, HO⟩
  iapply (send_step T Kn c j hj squeezes_S1x128x8_S128x8 4 5 rfl (credW wgM c) O BIBase.Entails.rfl BIBase.Entails.rfl)
  isplitr; · iexact HP
  iframe Hs Hd Ht Ht' HO

theorem waitsR_phase {O : Tally} (hO : Above 2 O) :
    iprop(oth c (fun j => iprop(credit c 3 j ∗ fresh c 3 j)) ∗ pers T Kn ∗ owing c O)
      ⊢ wpc c (waitsR c) fun _ => iprop(oth c (fun j => iprop(own c (rS rgM j) fullShare (T.R j) ∗ done c 3 j)) ∗ owing c O) := by
  refine wp_waiting T Kn c _ _ _ O fun j hj => ?_
  iintro ⟨⟨Hc, Ha⟩, #HP, HO⟩
  iapply (wpc_mono c fun _ => sep_assoc.2)
  iapply (wait_step T Kn c j hj 3 (credR rgM j) 2 le_rfl hO (own c (rS rgM j) fullShare (T.R j)) rfl)
  isplitr; · iexact HP
  iframe Hc Ha HO

theorem waitsP_phase {O : Tally} (hO : Above 4 O) :
    iprop(oth c (fun j => iprop(credit c 7 j ∗ fresh c 7 j)) ∗ pers T Kn ∗ owing c O)
      ⊢ wpc c (waitsP c) fun _ => iprop(oth c (fun j => iprop(own c (xS rsM j) fullShare (T.P j c) ∗ done c 7 j)) ∗ owing c O) := by
  refine wp_waiting T Kn c _ _ _ O fun j hj => ?_
  iintro ⟨⟨Hc, Ha⟩, #HP, HO⟩
  iapply (wpc_mono c fun _ => sep_assoc.2)
  iapply (wait_step T Kn c j hj 7 (credX rsM j) 4 le_rfl hO (own c (xS rsM j) fullShare (T.P j c)) rfl)
  isplitr; · iexact HP
  iframe Hc Ha HO

theorem fillW_phase :
    iprop(bigSep Finset.univ (fun j => own c (rS rgM j) (kept c j) (T.R j)) ∗ own c xM fullShare (T.x c) ∗ some_ c (wS wgM c))
      ⊢ wpc c (fillW c) fun _ => iprop(own c (wS wgM c) fullShare (T.W c)
          ∗ bigSep Finset.univ (fun j => own c (rS rgM j) (kept c j) (T.R j)) ∗ own c xM fullShare (T.x c)) := by
  rw [bigSep4]
  unfold fillW
  iintro ⟨⟨H0, H1, H2, H3⟩, Hx, Hs⟩
  iapply (wpc_step c (loadR_own c 0 (kept c 0) rgM (T.R 0))) $$ H0; iintro %r0 ⟨%h0, H0⟩; subst h0
  iapply (wpc_step c (loadR_own c 1 (kept c 1) rgM (T.R 1))) $$ H1; iintro %r1 ⟨%h1, H1⟩; subst h1
  iapply (wpc_step c (loadR_own c 2 (kept c 2) rgM (T.R 2))) $$ H2; iintro %r2 ⟨%h2, H2⟩; subst h2
  iapply (wpc_step c (loadR_own c 3 (kept c 3) rgM (T.R 3))) $$ H3; iintro %r3 ⟨%h3, H3⟩; subst h3
  iapply (wpc_step c (load_whole c xM _ fullShare (T.x c) (T.x c) _ fun f hf => by
    rw [← hf]; exact Memref.readAt_unit_zero (Elt F) cc0_stg0_0 hz2 _ f)) $$ Hx
  iintro %x ⟨%hx, Hx⟩; subst hx
  iapply (wpc_frame c (fillW_own c c wgM _))
  isplitl [Hs]; · iexact Hs
  iframe H0 H1 H2 H3 Hx

/-- What one block's step needs, leaves. -/
def chunkPre (o : Fin 4) : sProp 𝕄 :=
  if o = c then iprop(own c (xS xgM o) (shr o) (T.X o) ∗ own c (wS wgM o) (shr o) (T.W o) ∗ some_ c (xS stM o) ∗ some_ c (xS rsM o))
  else iprop((credit c 1 o ∗ fresh c 1 o) ∗ (credit c 5 o ∗ fresh c 5 o) ∗ some_ c (xS stM o) ∗ some_ o (xS rsM c) ∗ tok c 6 o ∗ tok o 7 c)
def chunkPost (o : Fin 4) : sProp 𝕄 :=
  if o = c then iprop(own c (xS xgM o) (shr o) (T.X o) ∗ own c (wS wgM o) (shr o) (T.W o) ∗ own c (xS stM o) fullShare (T.P c o) ∗ own c (xS rsM o) fullShare (T.P c o))
  else iprop((own c (xS xgM o) fullShare (T.X o) ∗ done c 1 o) ∗ (own c (wS wgM o) fullShare (T.W o) ∗ done c 5 o) ∗ credit c 6 o)

theorem experts_step (o : Fin 4) (q : PosShare TreeShare) {α : Type} (p : FVec F S1x128x512 .bf16 → P F α) (Q : α → sProp 𝕄) :
    iprop(own c (xS xgM o) q (T.X o) ∗ own c (wS wgM o) q (T.W o) ∗ some_ c (xS stM o)
        ∗ ((own c (xS xgM o) q (T.X o) ∗ own c (wS wgM o) q (T.W o) ∗ own c (xS stM o) fullShare (T.P c o)) -∗ wpc c (p (T.P c o)) Q))
      ⊢ wpc c (do
          let x ← loadX xgM o
          let w ← loadW wgM o
          let _ ← loadX stM o
          storeX stM hst o (expert (place c) (k0_pay14 (T.w1 c)) (k0_pay15 (T.w2 c)) x w)
          p (expert (place c) (k0_pay14 (T.w1 c)) (k0_pay15 (T.w2 c)) x w)) Q := by
  unfold some_
  iintro ⟨Hx, Hw, ⟨%Y, Hs⟩, Hk⟩
  iapply (wpc_step c (loadX_own c o q xgM (T.X o))) $$ Hx; iintro %x ⟨%hx, Hx⟩; subst hx
  iapply (wpc_step c (loadW_own c o q wgM (T.W o))) $$ Hw; iintro %w ⟨%hw, Hw⟩; subst hw
  iapply (wpc_step c (loadX_own c o fullShare stM Y)) $$ Hs; iintro %y ⟨-, Hs⟩
  iapply (wpc_step c (wp_store_own c stM (rX o) (fun _ => rfl) Y (T.P c o) _ _)) $$ Hs; iintro %_ Hs
  iapply Hk
  iframe Hx Hw Hs

theorem gather_step (o : Fin 4) (ho : o ≠ c) {O : Tally} (hO : Above 3 O) :
    iprop(pers T Kn ∗ (credit c 1 o ∗ fresh c 1 o) ∗ (credit c 5 o ∗ fresh c 5 o) ∗ owing c O)
      ⊢ wpc c (do waitX (sm xRcv o) xgM hxg o xgM hxg o; waitW (sm wRcv o) wgM wgM o o)
          fun _ => iprop((own c (xS xgM o) fullShare (T.X o) ∗ done c 1 o) ∗ (own c (wS wgM o) fullShare (T.W o) ∗ done c 5 o) ∗ owing c O) := by
  iintro ⟨#HP, ⟨Hc1, Ha1⟩, ⟨Hc5, Ha5⟩, HO⟩
  iapply (wpc_step c (wait_step T Kn c o ho 1 (credX xgM o) 3 le_rfl hO (own c (xS xgM o) fullShare (T.X o)) rfl)) $$ [Hc1 Ha1 HO]
  · isplitr; · iexact HP
    iframe Hc1 Ha1 HO
  iintro %_ ⟨Hx, Ha1, HO⟩
  iapply (wpc_mono c (Q := fun _ => iprop((own c (wS wgM o) fullShare (T.W o) ∗ done c 5 o ∗ owing c O) ∗ own c (xS xgM o) fullShare (T.X o) ∗ done c 1 o)) fun _ => by
    iintro ⟨⟨Hw, Ha5, HO⟩, Hx, Ha1⟩
    isplitl [Hx Ha1]
    · isplitl [Hx]; · iexact Hx
      iexact Ha1
    iframe Hw Ha5 HO)
  iapply (wpc_frame c (wait_step T Kn c o ho 5 (credW wgM o) 3 le_rfl hO (own c (wS wgM o) fullShare (T.W o)) rfl))
  isplitl [Hc5 Ha5 HO]
  · isplitr; · iexact HP
    iframe Hc5 Ha5 HO
  iframe Hx Ha1

theorem chunk_phase (o : Fin 4) :
    iprop(chunkPre T c o ∗ pers T Kn ∗ owing c (tail (owedD c 7) o.val))
      ⊢ wpc c (chunk c (k0_pay14 (T.w1 c)) (k0_pay15 (T.w2 c)) o) fun _ => iprop(chunkPost T c o ∗ pers T Kn ∗ owing c (tail (owedD c 7) (o.val + 1))) := by
  unfold chunkPre chunkPost chunk
  by_cases ho : o = c
  · subst ho
    simp only [↓reduceIte]
    iintro ⟨⟨Hx, Hw, Hs, Hd⟩, #HP, HO⟩
    iapply (wpc_step o (Q := fun _ => iprop(emp)) (R := iprop(emp)) (by unfold wpc; rw [wp_ret]; exact fupd_intro)) $$ []
    · iempintro
    iintro %_ -
    iapply (experts_step T o o (shr o) (fun v => do let _ ← loadX rsM o; storeX rsM hrs o v))
    iframe Hx Hw Hs
    iintro ⟨Hx, Hw, Hs⟩
    iapply (wpc_mono o (Q := fun _ => iprop(own o (xS rsM o) fullShare (T.P o o) ∗ own o (xS xgM o) (shr o) (T.X o) ∗ own o (wS wgM o) (shr o) (T.W o)
        ∗ own o (xS stM o) fullShare (T.P o o) ∗ owing o (tail (owedD o 7) o.val) ∗ pers T Kn)) fun _ => by
      rw [tail_step, owedD_self, add_zero]
      iintro ⟨Hd, Hx, Hw, Hs, HO, #HP⟩
      iframe Hx Hw Hs Hd HO
      iexact HP)
    iapply (wpc_frame o (fillX_own o o rsM hrs (T.P o o)))
    iframe Hd Hx Hw Hs HO
    iexact HP
  · simp only [if_neg ho]
    iintro ⟨⟨⟨Hc1, Ha1⟩, ⟨Hc5, Ha5⟩, Hs, Hd, Ht, Ht'⟩, #HP, HO⟩
    have hO : Above 3 (tail (owedD c 7) o.val) := above_tail (above_owedD c 7 (by decide)) _
    iapply (wpc_step c (gather_step T Kn c o ho hO)) $$ [Hc1 Ha1 Hc5 Ha5 HO]
    · isplitr; · iexact HP
      iframe Hc1 Ha1 Hc5 Ha5 HO
    iintro %_ ⟨⟨Hx, Ha1⟩, ⟨Hw, Ha5⟩, HO⟩
    iapply (experts_step T c o fullShare (fun v => sendX stM hst o o rsM hrs c (sm pSnd o) (sm pRcv c)))
    iframe Hx Hw Hs
    iintro ⟨Hx, Hw, Hs⟩
    iapply (wpc_mono c (Q := fun _ => iprop((credit c 6 o ∗ owing c (tail (owedD c 7) (o.val + 1))) ∗ own c (xS xgM o) fullShare (T.X o) ∗ done c 1 o
        ∗ own c (wS wgM o) fullShare (T.W o) ∗ done c 5 o ∗ pers T Kn)) fun _ => by
      iintro ⟨⟨Hc, HO⟩, Hx, Ha1, Hw, Ha5, #HP⟩
      iframe Hx Ha1 Hw Ha5 Hc HO
      iexact HP)
    rw [tail_step, show owedD c 7 o = tallyAt (dcell o 7 c) () (amt 7) from if_neg ho]
    iapply (wpc_frame c (send_step T Kn c o ho squeezes_S1x128x512_S128x512 6 7 rfl (credX rsM c) (tail (owedD c 7) (o.val + 1)) BIBase.Entails.rfl BIBase.Entails.rfl))
    isplitl [Hs Hd Ht Ht' HO]
    · isplitr; · iexact HP
      iframe Hs Hd Ht Ht' HO
    iframe Hx Ha1 Hw Ha5
    iexact HP

theorem write_out (v : Vec F S128x512 .f32) (f : (cc0_stg4_0 : Ref sig .tc).ty.Contents (Elt F)) :
    oM.view.read (Elt F) ((oM.access (Rect.unit (s := S128x512) ![0, 0] S128x512.size inb_S128x512_S128x512_0_0)).write (Elt F) f v Finset.univ) = v := by
  have h := Memref.write_access_unit_zero_univ (Elt F) cc0_stg4_0 (off := ![0, 0]) hz2 inb_S128x512_S128x512_0_0 f v
  exact (congrArg (oM.view.read (Elt F)) h).trans (View.read_whole (κ := .tc) cc0_stg4_0 v)

theorem finish_phase :
    iprop(bigSep Finset.univ (fun j => own c (xS rsM j) fullShare (T.P j c)) ∗ some_ c oM)
      ⊢ wpc c finish fun _ => iprop(bigSep Finset.univ (fun j => own c (xS rsM j) fullShare (T.P j c)) ∗ own c oM fullShare (T.O c)) := by
  rw [bigSep4]
  unfold finish some_
  iintro ⟨⟨H0, H1, H2, H3⟩, ⟨%Y, Ho⟩⟩
  iapply (wpc_step c (loadX_own c 0 fullShare rsM (T.P 0 c))) $$ H0; iintro %r0 ⟨%h0, H0⟩; subst h0
  iapply (wpc_step c (loadX_own c 1 fullShare rsM (T.P 1 c))) $$ H1; iintro %r1 ⟨%h1, H1⟩; subst h1
  iapply (wpc_step c (loadX_own c 2 fullShare rsM (T.P 2 c))) $$ H2; iintro %r2 ⟨%h2, H2⟩; subst h2
  iapply (wpc_step c (loadX_own c 3 fullShare rsM (T.P 3 c))) $$ H3; iintro %r3 ⟨%h3, H3⟩; subst h3
  iapply (wpc_step c (load_whole c oM _ fullShare Y Y _ fun f hf => by
    rw [← hf]; exact Memref.readAt_unit_zero (Elt F) cc0_stg4_0 hz2 _ f)) $$ Ho
  iintro %x ⟨-, Ho⟩
  iapply (wpc_mono c (Q := fun _ => iprop(own c oM fullShare (T.O c) ∗ own c (xS rsM 0) fullShare (T.P 0 c) ∗ own c (xS rsM 1) fullShare (T.P 1 c)
      ∗ own c (xS rsM 2) fullShare (T.P 2 c) ∗ own c (xS rsM 3) fullShare (T.P 3 c))) fun _ => by
    iintro ⟨Ho, H0, H1, H2, H3⟩
    iframe H0 H1 H2 H3 Ho)
  iapply (wpc_frame c (store_whole c oM (Rect.unit (s := S128x512) ![0, 0] S128x512.size inb_S128x512_S128x512_0_0) Y (T.O c) (T.O c) _ _ (write_out (T.O c))))
  iframe Ho H0 H1 H2 H3

theorem drains_phase {O : Tally} (hO : Above 0 O) :
    iprop(oth c (fun j => iprop((credit c 2 j ∗ fresh c 2 j) ∗ (credit c 0 j ∗ fresh c 0 j) ∗ (credit c 4 j ∗ fresh c 4 j) ∗ (credit c 6 j ∗ fresh c 6 j))) ∗ pers T Kn ∗ owing c O)
      ⊢ wpc c (drains c) fun _ => iprop(oth c (fun j => iprop((own c (rS rgM c) (shr j) (T.R c) ∗ done c 2 j) ∗ (own c (xS xgM c) (shr j) (T.X c) ∗ done c 0 j)
          ∗ (own c (wS wgM c) (shr j) (T.W c) ∗ done c 4 j) ∗ (own c (xS stM j) fullShare (T.P c j) ∗ done c 6 j))) ∗ owing c O) := by
  refine wp_waiting T Kn c _ _ _ O fun j hj => ?_
  iintro ⟨⟨⟨Hc2, Ha2⟩, ⟨Hc0, Ha0⟩, ⟨Hc4, Ha4⟩, ⟨Hc6, Ha6⟩⟩, #HP, HO⟩
  iapply (wpc_step c (wait_step T Kn c j hj 2 (credR rgM c) 0 le_rfl hO (own c (rS rgM c) (shr j) (T.R c)) rfl)) $$ [Hc2 Ha2 HO]
  · isplitr; · iexact HP
    iframe Hc2 Ha2 HO
  iintro %_ ⟨H2, Ha2, HO⟩
  iapply (wpc_step c (wait_step T Kn c j hj 0 (credX xgM c) 0 le_rfl hO (own c (xS xgM c) (shr j) (T.X c)) rfl)) $$ [Hc0 Ha0 HO]
  · isplitr; · iexact HP
    iframe Hc0 Ha0 HO
  iintro %_ ⟨H0, Ha0, HO⟩
  iapply (wpc_step c (wait_step T Kn c j hj 4 (credW wgM c) 0 le_rfl hO (own c (wS wgM c) (shr j) (T.W c)) rfl)) $$ [Hc4 Ha4 HO]
  · isplitr; · iexact HP
    iframe Hc4 Ha4 HO
  iintro %_ ⟨H4, Ha4, HO⟩
  iapply (wpc_mono c (Q := fun _ => iprop((own c (xS stM j) fullShare (T.P c j) ∗ done c 6 j ∗ owing c O)
      ∗ own c (rS rgM c) (shr j) (T.R c) ∗ done c 2 j ∗ own c (xS xgM c) (shr j) (T.X c) ∗ done c 0 j ∗ own c (wS wgM c) (shr j) (T.W c) ∗ done c 4 j)) fun _ => by
    iintro ⟨⟨H6, Ha6, HO⟩, H2, Ha2, H0, Ha0, H4, Ha4⟩
    isplitr [HO]
    · isplitl [H2 Ha2]; · isplitl [H2] <;> iassumption
      isplitl [H0 Ha0]; · isplitl [H0] <;> iassumption
      isplitl [H4 Ha4]; · isplitl [H4] <;> iassumption
      isplitl [H6] <;> iassumption
    iexact HO)
  iapply (wpc_frame c (wait_step T Kn c j hj 6 (credX stM j) 0 le_rfl hO (own c (xS stM j) fullShare (T.P c j)) rfl))
  isplitl [Hc6 Ha6 HO]
  · isplitr; · iexact HP
    iframe Hc6 Ha6 HO
  iframe H2 Ha2 H0 Ha0 H4 Ha4

end Phases

end Cert.Moe
-- ==== Proof.Device.lean ====
/-
# One device's run

The phases in order: from the slots of its buffers, its rights and its credits, a device runs to its block of the result, with
every buffer, every cell and every input its own again.
-/
module

public import proofs.«01_k».proof.Proof.Phases

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (T : Blocks F) (Kn : Dev nD × CellIx → ℕ) (c : Dev nD)

/-- A slot at its kept share is the device's quarter of its own block and the whole of the others'. -/
theorem kept_eq : bigSep Finset.univ (fun j => own c (rS rgM j) (kept c j) (T.R j))
    = iprop(own c (rS rgM c) (shr c) (T.R c) ∗ oth c (fun j => own c (rS rgM j) fullShare (T.R j))) := by
  rw [bigSep_oth c, oth_congr c (Ψ := fun j => own c (rS rgM j) fullShare (T.R j)) fun j hj => by rw [kept, if_neg hj], kept, if_pos rfl]

theorem chunks_phase :
    iprop((own c (xS xgM c) (shr c) (T.X c) ∗ own c (wS wgM c) (shr c) (T.W c) ∗ some_ c (xS stM c) ∗ some_ c (xS rsM c))
        ∗ oth c (fun o => iprop((credit c 1 o ∗ fresh c 1 o) ∗ (credit c 5 o ∗ fresh c 5 o) ∗ some_ c (xS stM o) ∗ some_ o (xS rsM c) ∗ tok c 6 o ∗ tok o 7 c))
        ∗ pers T Kn ∗ owing c (oP c))
      ⊢ wpc c (each (chunk c (k0_pay14 (T.w1 c)) (k0_pay15 (T.w2 c)))) fun _ =>
        iprop((own c (xS xgM c) (shr c) (T.X c) ∗ own c (wS wgM c) (shr c) (T.W c) ∗ own c (xS stM c) fullShare (T.P c c) ∗ own c (xS rsM c) fullShare (T.P c c))
          ∗ oth c (fun o => iprop((own c (xS xgM o) fullShare (T.X o) ∗ done c 1 o) ∗ (own c (wS wgM o) fullShare (T.W o) ∗ done c 5 o) ∗ credit c 6 o))
          ∗ owing c 0) := by
  have h := wp_each c (chunk c (k0_pay14 (T.w1 c)) (k0_pay15 (T.w2 c))) (chunkPre T c) (chunkPost T c)
    (fun n => iprop(pers T Kn ∗ owing c (tail (owedD c 7) n))) (chunk_phase T Kn c)
  rw [bigSep_oth c, bigSep_oth c, chunkPre, chunkPost, if_pos rfl, if_pos rfl, tail_four,
    oth_congr c (Φ := chunkPre T c) fun o ho => if_neg ho, oth_congr c (Φ := chunkPost T c) fun o ho => if_neg ho] at h
  refine BIBase.Entails.trans ?_ (h.trans (wpc_mono c fun _ => ?_))
  · iintro ⟨H, Ho, #HP, HO⟩
    isplitl [H Ho]
    · isplitl [H] <;> iassumption
    isplitr; · iexact HP
    iexact HO
  · iintro ⟨⟨H, Ho⟩, #HP, HO⟩
    iframe H Ho HO

/-- The slots of device `c`'s five buffers, at whatever they hold. -/
def slots : sProp 𝕄 :=
  iprop((bigSep Finset.univ fun j => some_ (F := F) c (xS xgM j)) ∗ (bigSep Finset.univ fun j => some_ (F := F) c (rS rgM j))
    ∗ (bigSep Finset.univ fun j => some_ (F := F) c (wS wgM j)) ∗ (bigSep Finset.univ fun j => some_ (F := F) c (xS stM j))
    ∗ (bigSep Finset.univ fun j => some_ (F := F) c (xS rsM j)))

/-- Device `c`'s inputs. -/
def inputs : sProp 𝕄 :=
  iprop(own c xM fullShare (T.x c) ∗ own c routerM fullShare (T.r c) ∗ own c w1M fullShare (T.w1 c) ∗ own c w2M fullShare (T.w2 c))

/-- Device `c`'s positions in its cells shared with the others, before and after; -/
def before : sProp 𝕄 :=
  iprop(atPos ER (bcell c) 0 ∅ 0 ∗ oth c (fresh (F := F) c 0) ∗ oth c (fresh (F := F) c 1) ∗ oth c (fresh (F := F) c 2) ∗ oth c (fresh (F := F) c 3)
    ∗ oth c (fresh (F := F) c 4) ∗ oth c (fresh (F := F) c 5) ∗ oth c (fresh (F := F) c 6) ∗ oth c (fresh (F := F) c 7))
def after : sProp 𝕄 :=
  iprop(atPos ER (bcell c) 1 ∅ 0 ∗ oth c (done (F := F) c 0) ∗ oth c (done (F := F) c 1) ∗ oth c (done (F := F) c 2) ∗ oth c (done (F := F) c 3)
    ∗ oth c (done (F := F) c 4) ∗ oth c (done (F := F) c 5) ∗ oth c (done (F := F) c 6) ∗ oth c (done (F := F) c 7))
/-- the credits it was launched with; -/
def credits : sProp 𝕄 :=
  iprop(cred (tallyAt (bcell c) () 3) ∗ oth c (credit (F := F) c 1) ∗ oth c (credit (F := F) c 3) ∗ oth c (credit (F := F) c 5) ∗ oth c (credit (F := F) c 7))
/-- the duties it pays. -/
def rights : sProp 𝕄 :=
  iprop(oth c (fun j => (dutyTok ER (bcell j) 0 c : sProp 𝕄))
    ∗ (oth c (fun j => tok (F := F) c 0 j) ∗ oth c (fun j => tok (F := F) j 1 c)) ∗ (oth c (fun j => tok (F := F) c 2 j) ∗ oth c (fun j => tok (F := F) j 3 c))
    ∗ (oth c (fun j => tok (F := F) c 4 j) ∗ oth c (fun j => tok (F := F) j 5 c)) ∗ (oth c (fun j => tok (F := F) c 6 j) ∗ oth c (fun j => tok (F := F) j 7 c)))

theorem wpc_end {α : Type} {p : P F α} {Q Q' : α → sProp 𝕄} {R : sProp 𝕄} (h : R ⊢ wpc c p Q) :
    R ⊢ iprop((∀ a, Q a -∗ Q' a) -∗ wpc c p Q') := h.trans (wp_wand _ _ _)

theorem some_intro (d : Dev nD) {sp : Space} {s : Shape} {e : EltTy} (m : Memref sig .tc sp s e) (X : s.Idx → Elt F e) : own d m fullShare X ⊢ some_ d m := by
  unfold some_; iintro H; iexists X; iexact H

/-- The lent quarters of a slot, back. -/
theorem rejoin {sp : Space} {s : Shape} {e : EltTy} (m : Memref sig .tc sp s e) (X : s.Idx → Elt F e) :
    iprop(own c m (shr c) X ∗ oth c fun j => own c m (shr j) X) ⊢ some_ c m := by
  rw [← own_shares]; exact some_intro c m X

set_option maxHeartbeats 1600000 in
theorem sound_prog :
    iprop(pers T Kn ∗ before (F := F) c ∗ credits (F := F) c ∗ rights (F := F) c ∗ slots (F := F) c ∗ inputs T c ∗ some_ c oM ∗ owing c (O₀ c))
      ⊢ wpc c (prog c) fun _ => iprop(after (F := F) c ∗ slots (F := F) c ∗ inputs T c ∗ own c oM fullShare (T.O c) ∗ owing c 0) := by
  have hsig := signals_phase T Kn c (oR c)
  have hbar := bar_step T Kn c (above_oR c)
  have hsr := sendsR_phase T Kn c (oX c)
  have hsx := sendsX_phase T Kn c (oW c)
  have hwr := waitsR_phase T Kn c (above_oW c)
  have hfw := fillW_phase T c
  have hsw := sendsW_phase T Kn c (oP c)
  have hch := chunks_phase T Kn c
  have hwp := waitsP_phase T Kn c (above_zero 4)
  have hfi := finish_phase T c
  have hdr := drains_phase T Kn c (above_zero 0)
  simp only [kept_eq, barPay, oth_sep, bigSep_oth c (fun j => own c (xS rsM j) fullShare (T.P j c))] at hsig hbar hsr hsx hwr hfw hsw hch hwp hfi hdr
  unfold prog before credits rights slots inputs after O₀
  simp only [bigSep_oth c]
  iintro ⟨#HP, ⟨HaB, Ha0, Ha1, Ha2, Ha3, Ha4, Ha5, Ha6, Ha7⟩, ⟨HcB, Hc1, Hc3, Hc5, Hc7⟩,
    ⟨HtB, ⟨Ht0, Ht1⟩, ⟨Ht2, Ht3⟩, ⟨Ht4, Ht5⟩, ⟨Ht6, Ht7⟩⟩, ⟨⟨Hx, Hxo⟩, ⟨Hr, Hro⟩, ⟨Hw, Hwo⟩, ⟨Hs, Hso⟩, ⟨Hp, Hpo⟩⟩, ⟨Ix, Ir, I1, I2⟩, Hout, HO⟩
  iapply (wpc_step c hsig) $$ [HtB Hxo Hro Hwo Hpo HO]
  · iframe HtB Hxo Hro Hwo Hpo HO
    iexact HP
  iintro %_ ⟨-, HO⟩
  iapply (wpc_step c hbar) $$ [HcB HaB HO]
  · iframe HcB HaB HO
    iexact HP
  iintro %_ ⟨⟨Dr, Dx, Dw, Dp⟩, HaB, HO⟩
  iapply (wpc_step c (fillR_phase T c)) $$ [Ir Hr]
  · iframe Ir Hr
  iintro %_ ⟨Hr, Ir⟩
  iapply (wpc_step c (fillX_phase T c)) $$ [Ix Hx]
  · iframe Ix Hx
  iintro %_ ⟨Hx, Ix⟩
  ihave Hr := (BIBase.Entails.of_eq (own_shares c (rS rgM c) (T.R c))) $$ Hr
  icases Hr with ⟨Hr, Lr⟩
  ihave Hx := (BIBase.Entails.of_eq (own_shares c (xS xgM c) (T.X c))) $$ Hx
  icases Hx with ⟨Hx, Lx⟩
  iapply (wpc_step c hsr) $$ [Lr Dr Ht2 Ht3 HO]
  · iframe Lr Dr Ht2 Ht3 HO
    iexact HP
  iintro %_ ⟨Hc2, HO⟩
  iapply (wpc_step c hsx) $$ [Lx Dx Ht0 Ht1 HO]
  · iframe Lx Dx Ht0 Ht1 HO
    iexact HP
  iintro %_ ⟨Hc0, HO⟩
  iapply (wpc_step c (load_whole c w1M _ fullShare (T.w1 c) (T.w1 c) _ fun f hf => by
    rw [← hf]; exact Memref.readAt_unit_zero (Elt F) cc0_stg2_0 hz3 _ f)) $$ I1
  iintro %w1 ⟨%h1, I1⟩
  subst h1
  iapply (wpc_step c (load_whole c w2M _ fullShare (T.w2 c) (T.w2 c) _ fun f hf => by
    rw [← hf]; exact Memref.readAt_unit_zero (Elt F) cc0_stg3_0 hz3 _ f)) $$ I2
  iintro %w2 ⟨%h2, I2⟩
  subst h2
  iapply (wpc_step c hwr) $$ [Hc3 Ha3 HO]
  · iframe Hc3 Ha3 HO
    iexact HP
  iintro %_ ⟨⟨Hro, Ha3⟩, HO⟩
  iapply (wpc_step c hfw) $$ [Hr Hro Ix Hw]
  · iframe Hr Hro Ix Hw
  iintro %_ ⟨Hw, ⟨Hr, Hro⟩, Ix⟩
  ihave Hw := (BIBase.Entails.of_eq (own_shares c (wS wgM c) (T.W c))) $$ Hw
  icases Hw with ⟨Hw, Lw⟩
  iapply (wpc_step c hsw) $$ [Lw Dw Ht4 Ht5 HO]
  · iframe Lw Dw Ht4 Ht5 HO
    iexact HP
  iintro %_ ⟨Hc4, HO⟩
  iapply (wpc_step c hch) $$ [Hx Hw Hs Hp Hc1 Ha1 Hc5 Ha5 Hso Dp Ht6 Ht7 HO]
  · iframe Hx Hw Hs Hp Hc1 Ha1 Hc5 Ha5 Hso Dp Ht6 Ht7 HO
    iexact HP
  iintro %_ ⟨⟨Hx, Hw, Hs, Hp⟩, ⟨⟨Hxo, Ha1⟩, ⟨Hwo, Ha5⟩, Hc6⟩, HO⟩
  iapply (wpc_step c hwp) $$ [Hc7 Ha7 HO]
  · iframe Hc7 Ha7 HO
    iexact HP
  iintro %_ ⟨⟨Hpo, Ha7⟩, HO⟩
  iapply (wpc_step c hfi) $$ [Hp Hpo Hout]
  · iframe Hp Hpo Hout
  iintro %_ ⟨⟨Hp, Hpo⟩, Hout⟩
  iapply (wpc_end c hdr) $$ [Hc2 Ha2 Hc0 Ha0 Hc4 Ha4 Hc6 Ha6 HO]
  · iframe Hc2 Ha2 Hc0 Ha0 Hc4 Ha4 Hc6 Ha6 HO
    iexact HP
  iintro %_ ⟨⟨⟨Lr, Ha2⟩, ⟨Lx, Ha0⟩, ⟨Lw, Ha4⟩, ⟨Hso, Ha6⟩⟩, HO⟩
  ihave Hr := (rejoin c (rS rgM c) (T.R c)) $$ [Hr Lr]
  · iframe Hr Lr
  ihave Hx := (rejoin c (xS xgM c) (T.X c)) $$ [Hx Lx]
  · iframe Hx Lx
  ihave Hw := (rejoin c (wS wgM c) (T.W c)) $$ [Hw Lw]
  · iframe Hw Lw
  ihave Hs := (some_intro c (xS stM c) (T.P c c)) $$ Hs
  ihave Hp := (some_intro c (xS rsM c) (T.P c c)) $$ Hp
  ihave Hxo := (oth_mono c (Ψ := fun j => some_ c (xS xgM j)) fun j _ => some_intro c (xS xgM j) (T.X j)) $$ Hxo
  ihave Hro := (oth_mono c (Ψ := fun j => some_ c (rS rgM j)) fun j _ => some_intro c (rS rgM j) (T.R j)) $$ Hro
  ihave Hwo := (oth_mono c (Ψ := fun j => some_ c (wS wgM j)) fun j _ => some_intro c (wS wgM j) (T.W j)) $$ Hwo
  ihave Hso := (oth_mono c (Ψ := fun j => some_ c (xS stM j)) fun j _ => some_intro c (xS stM j) (T.P c j)) $$ Hso
  ihave Hpo := (oth_mono c (Ψ := fun j => some_ c (xS rsM j)) fun j _ => some_intro c (xS rsM j) (T.P j c)) $$ Hpo
  iframe HaB Ha0 Ha1 Ha2 Ha3 Ha4 Ha5 Ha6 Ha7 Hx Hxo Hr Hro Hw Hwo Hs Hso Hp Hpo Ix Ir I1 I2 Hout HO

end

end Cert.Moe
-- ==== Proof.Buffers.lean ====
/-
# A buffer and its four slots

A scratch buffer, at whatever it holds, is its four slots, each at whatever it holds.
-/
module

public import proofs.«01_k».proof.Proof.Device

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Four layers of a box -/

section
variable {s : Shape} (a₀ : Fin s.rank) (off : Fin 4 → Fin s.rank → ℕ) (size : Fin s.rank → ℕ) (inb : ∀ k a, off k a + size a ≤ s.size a)

theorem layers_disjoint (h : ∀ k, off k a₀ = k.val) (hs : size a₀ = 1) (k k' : Fin 4) (hk : k ≠ k') :
    Disjoint (Rect.unit (s := s) (off k) size (inb k)).set (Rect.unit (s := s) (off k') size (inb k')).set := by
  refine Rect.unit_disjoint a₀ ?_
  have : k.val ≠ k'.val := fun e => hk (Fin.ext e)
  rw [h, h, hs]; omega

theorem layers_cover (h : ∀ k, off k a₀ = k.val) (hs : size a₀ = 1) (h4 : s.size a₀ = 4) (ho : ∀ k a, a ≠ a₀ → off k a = 0 ∧ size a = s.size a) :
    (Finset.univ : Finset (Fin 4)).biUnion (fun k => (Rect.unit (s := s) (off k) size (inb k)).set) = Finset.univ := by
  ext i
  refine ⟨fun _ => Finset.mem_univ i, fun _ => Finset.mem_biUnion.mpr ⟨⟨(i a₀).val, h4 ▸ (i a₀).isLt⟩, Finset.mem_univ _, ?_⟩⟩
  rw [Rect.mem_set_unit]
  intro a
  by_cases ha : a = a₀
  · subst ha; rw [h, hs]; exact ⟨le_rfl, Nat.lt_succ_self _⟩
  · rw [(ho _ a ha).1, (ho 0 a ha).2]; exact ⟨Nat.zero_le _, by rw [Nat.zero_add]; exact (i a).isLt⟩

end

theorem rX_disjoint (k k' : Fin 4) (h : k ≠ k') : Disjoint (rX k).set (rX k').set :=
  layers_disjoint (s := S4x128x512) 0 (fun k => ![k.val, 0, 0]) _ inbX (fun _ => rfl) rfl k k' h
theorem rX_cover : (Finset.univ : Finset (Fin 4)).biUnion (fun k => (rX k).set) = Finset.univ :=
  layers_cover (s := S4x128x512) 0 (fun k => ![k.val, 0, 0]) _ inbX (fun _ => rfl) rfl rfl
    (fun _ a ha => by fin_cases a; exacts [absurd rfl ha, ⟨rfl, rfl⟩, ⟨rfl, rfl⟩])
theorem rR_disjoint (k k' : Fin 4) (h : k ≠ k') : Disjoint (rR k).set (rR k').set :=
  layers_disjoint (s := S4x512x2) 0 (fun k => ![k.val, 0, 0]) _ inbR (fun _ => rfl) rfl k k' h
theorem rR_cover : (Finset.univ : Finset (Fin 4)).biUnion (fun k => (rR k).set) = Finset.univ :=
  layers_cover (s := S4x512x2) 0 (fun k => ![k.val, 0, 0]) _ inbR (fun _ => rfl) rfl rfl
    (fun _ a ha => by fin_cases a; exacts [absurd rfl ha, ⟨rfl, rfl⟩, ⟨rfl, rfl⟩])
theorem rW_disjoint (k k' : Fin 4) (h : k ≠ k') : Disjoint (rW k).set (rW k').set :=
  layers_disjoint (s := S4x128x8) 0 (fun k => ![k.val, 0, 0]) _ inbW (fun _ => rfl) rfl k k' h
theorem rW_cover : (Finset.univ : Finset (Fin 4)).biUnion (fun k => (rW k).set) = Finset.univ :=
  layers_cover (s := S4x128x8) 0 (fun k => ![k.val, 0, 0]) _ inbW (fun _ => rfl) rfl rfl
    (fun _ a ha => by fin_cases a; exacts [absurd rfl ha, ⟨rfl, rfl⟩, ⟨rfl, rfl⟩])

/-! ## A memref and its slots -/

section
variable (c : Dev nD) {sp : Space} {s : Shape} {e : EltTy} (m : Memref sig .tc sp s e) (r : Fin 4 → Rect s) (hr : ∀ k a, (r k).stride a = 1)
  (hd : ∀ k k', k ≠ k' → Disjoint (r k).set (r k').set) (hcov : (Finset.univ : Finset (Fin 4)).biUnion (fun k => (r k).set) = Finset.univ)
include hd hcov

theorem split_slots : some_ (F := F) c m ⊢ bigSep Finset.univ fun k => some_ (F := F) c (m.slice (r k) (hr k)) := by
  unfold some_ own
  iintro ⟨%X, H⟩
  iapply (show owns (c : Thread nD τ) m fullShare X ⊢ bigSep Finset.univ fun k => some_ (F := F) c (m.slice (r k) (hr k)) from
    BIBase.Entails.trans (owns_rects (Val := Elt F) (Ix := Unit) (Name := ℕ) (U := UU) (Lvl := ℕ) (c : Thread nD τ) m fullShare r hr hd hcov X)
      (bigSep_mono fun k _ => some_intro c (m.slice (r k) (hr k)) (fun j => X ((r k).emb j))))
  iexact H

theorem join_slots : (bigSep Finset.univ fun k => some_ (F := F) c (m.slice (r k) (hr k))) ⊢ some_ (F := F) c m := by
  unfold some_ own
  refine (BI.bigSep_exists_pi Finset.univ (fun k X => owns (c : Thread nD τ) (m.slice (r k) (hr k)) fullShare X)).trans ?_
  iintro ⟨%Xs, H⟩
  have hg (k : Fin 4) : (fun j => Rect.glue r hcov Xs ((r k).emb j)) = Xs k := funext fun y => Rect.glue_emb r hcov hd Xs k y
  iexists (Rect.glue r hcov Xs)
  iapply (owns_of_rects (Val := Elt F) (Ix := Unit) (Name := ℕ) (U := UU) (Lvl := ℕ) (c : Thread nD τ) m fullShare r hr hd hcov (Rect.glue r hcov Xs))
  simp only [hg]
  iexact H

end

/-! ## The five scratch buffers -/

/-- The whole of a buffer, at whatever it holds. -/
theorem some_whole (c : Dev nD) (b : Ref sig .tc) :
    some_ (F := F) c (Memref.whole b) = iprop(∃ f : Buf (Elt F) ((c : Thread nD τ).loc b), ((c : Thread nD τ).loc b) ↦{fullShare} f) := by
  unfold some_ own owns
  simp only [Memref.view_whole, View.read_whole, View.set_whole]
  have h₁ : (iprop(∃ X, ∃ f : Buf (Elt F) ((c : Thread nD τ).loc b), ⌜f = X⌝ ∗ ((c : Thread nD τ).loc b) ↦{fullShare} f) : sProp 𝕄)
      ⊢ iprop(∃ f : Buf (Elt F) ((c : Thread nD τ).loc b), ((c : Thread nD τ).loc b) ↦{fullShare} f) := by
    iintro ⟨%X, %f, -, H⟩; iexists f; iexact H
  have h₂ : (iprop(∃ f : Buf (Elt F) ((c : Thread nD τ).loc b), ((c : Thread nD τ).loc b) ↦{fullShare} f) : sProp 𝕄)
      ⊢ iprop(∃ X, ∃ f : Buf (Elt F) ((c : Thread nD τ).loc b), ⌜f = X⌝ ∗ ((c : Thread nD τ).loc b) ↦{fullShare} f) := by
    iintro ⟨%f, H⟩; iexists f, f; isplitr; · (ipureintro; rfl)
    iexact H
  exact equiv_iff.mp ⟨h₁, h₂⟩

/-- Device `c`'s five scratch buffers, each whole at whatever it holds. -/
def scratch (c : Dev nD) : sProp 𝕄 :=
  iprop(some_ (F := F) c xgM ∗ some_ (F := F) c rgM ∗ some_ (F := F) c wgM ∗ some_ (F := F) c stM ∗ some_ (F := F) c rsM)

theorem slots_of_scratch (c : Dev nD) : scratch (F := F) c ⊢ slots (F := F) c :=
  BI.sep_mono (split_slots c xgM rX (fun _ _ => rfl) rX_disjoint rX_cover) (BI.sep_mono (split_slots c rgM rR (fun _ _ => rfl) rR_disjoint rR_cover)
    (BI.sep_mono (split_slots c wgM rW (fun _ _ => rfl) rW_disjoint rW_cover) (BI.sep_mono (split_slots c stM rX (fun _ _ => rfl) rX_disjoint rX_cover)
      (split_slots c rsM rX (fun _ _ => rfl) rX_disjoint rX_cover))))
theorem scratch_of_slots (c : Dev nD) : slots (F := F) c ⊢ scratch (F := F) c :=
  BI.sep_mono (join_slots c xgM rX (fun _ _ => rfl) rX_disjoint rX_cover) (BI.sep_mono (join_slots c rgM rR (fun _ _ => rfl) rR_disjoint rR_cover)
    (BI.sep_mono (join_slots c wgM rW (fun _ _ => rfl) rW_disjoint rW_cover) (BI.sep_mono (join_slots c stM rX (fun _ _ => rfl) rX_disjoint rX_cover)
      (join_slots c rsM rX (fun _ _ => rfl) rX_disjoint rX_cover))))

theorem scopedRest_eq (c : Dev nD) :
    (Pipeline.scopedRest (Ix := Unit) (Name := ℕ) (U := UU) (Lvl := ℕ) (Val := Elt F) spec0 c : sProp 𝕄) = scratch (F := F) c := by
  rw [scopedRest0_eq]; unfold scratch
  rw [some_whole c cc0_scratch0, some_whole c cc0_scratch1, some_whole c cc0_scratch2, some_whole c cc0_scratch3, some_whole c cc0_scratch4]

end Cert.Moe
-- ==== Proof.Cells.lean ====
/-
# All the cells of a device

A device's barrier cell and its thirty-two copy cells, taken together: the positions before and after its run, and the closing
of every cell at the end.
-/
module

public import proofs.«01_k».proof.Proof.Buffers

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem bigSep_cells (Φ : CellIx → sProp 𝕄) :
    bigSep Finset.univ Φ = iprop(Φ none ∗ bigSep Finset.univ fun K : Fin 8 => bigSep Finset.univ fun j : Fin 4 => Φ (some (K, j))) := by
  rw [bigSep_univ_at Φ none, ← bigSep_univ_prod (fun Kj : Fin 8 × Fin 4 => Φ (some Kj)),
    show (Finset.univ.erase none : Finset CellIx) = Finset.univ.map Function.Embedding.some from by
      ext k; cases k <;> simp, bigSep_map]
  rfl

theorem bigSep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem drop_self (c : Dev nD) (Φ : Fin 4 → sProp 𝕄) : bigSep Finset.univ Φ ⊢ oth c Φ := by
  rw [bigSep_oth c]; exact sep_elim_right

section
variable (T : Blocks F) (Kn : Dev nD × CellIx → ℕ) (c : Dev nD)

/-- Device `c`'s positions in the cells of its own index, which no copy uses. -/
def spare : sProp 𝕄 := bigSep Finset.univ fun K : Fin 8 => fresh (F := F) c K c

theorem before_spare :
    (bigSep Finset.univ fun k : CellIx => (atPos ER (kcell (c, k)) 0 ∅ 0 : sProp 𝕄)) = iprop(before (F := F) c ∗ spare (F := F) c) := by
  rw [bigSep_cells, bigSep_congr (s := Finset.univ) (fun (K : Fin 8) _ => bigSep_oth c (fun j => (atPos ER (kcell (c, some (K, j))) 0 ∅ 0 : sProp 𝕄))),
    bigSep_sep', bigSep8 (fun K => oth c fun j => (atPos ER (kcell (c, some (K, j))) 0 ∅ 0 : sProp 𝕄))]
  unfold before spare
  have h₁ : (iprop(atPos ER (kcell (c, none)) 0 ∅ 0 ∗ spare (F := F) c ∗ oth c (fresh (F := F) c 0) ∗ oth c (fresh (F := F) c 1) ∗ oth c (fresh (F := F) c 2)
      ∗ oth c (fresh (F := F) c 3) ∗ oth c (fresh (F := F) c 4) ∗ oth c (fresh (F := F) c 5) ∗ oth c (fresh (F := F) c 6) ∗ oth c (fresh (F := F) c 7)) : sProp 𝕄)
      ⊢ iprop(before (F := F) c ∗ spare (F := F) c) := by
    unfold before; iintro ⟨H, HS, HR⟩; iframe H HR HS
  have h₂ : iprop(before (F := F) c ∗ spare (F := F) c) ⊢
      (iprop(atPos ER (kcell (c, none)) 0 ∅ 0 ∗ spare (F := F) c ∗ oth c (fresh (F := F) c 0) ∗ oth c (fresh (F := F) c 1) ∗ oth c (fresh (F := F) c 2)
      ∗ oth c (fresh (F := F) c 3) ∗ oth c (fresh (F := F) c 4) ∗ oth c (fresh (F := F) c 5) ∗ oth c (fresh (F := F) c 6) ∗ oth c (fresh (F := F) c 7)) : sProp 𝕄) := by
    unfold before; iintro ⟨⟨H, HR⟩, HS⟩; iframe H HS HR
  exact equiv_iff.mp ⟨h₁, h₂⟩

/-- Every counter of device `c` that the exchange uses, at zero. -/
def zeros : sProp 𝕄 := bigSep Finset.univ fun k : CellIx => (semVal (kcell (c, k)) 0 : sProp 𝕄)

/-- A cell whose remaining rounds have no duties closes at zero. -/
theorem close_cell (ck : Dev nD × CellIx) (R : ℕ) (hR : ∀ r, R ≤ r → (Rd T).duties (kcell ck) r = ∅) :
    iprop(pers T Kn ∗ atPos ER (kcell ck) R ∅ 0) ⊢ |={Set.univ}=> semVal (kcell ck) 0 :=
  BIBase.Entails.trans (sep_mono_left (pers_inv T Kn ck)) (Rounds.cell_close ER (Rd T) (Set.mem_univ _) (fun h => h) hR)

theorem close_all {I : Type} [DecidableEq I] (S : Finset I) (R : sProp 𝕄) [BI.Persistent R] (Φ Ψ : I → sProp 𝕄)
    (h : ∀ i ∈ S, iprop(R ∗ Φ i) ⊢ |={Set.univ}=> Ψ i) : iprop(R ∗ bigSep S Φ) ⊢ |={Set.univ}=> bigSep S Ψ :=
  BIBase.Entails.trans (sep_mono_left (BI.bigSep_of_persistent S R)) (by
    rw [← bigSep_sep']; exact BIBase.Entails.trans (bigSep_mono h) (bigSep_fupd _ _))

theorem close_done (K : Fin 8) : iprop(pers T Kn ∗ oth c (done (F := F) c K)) ⊢ |={Set.univ}=> oth c fun j => semVal (dcell c K j) 0 :=
  close_all _ _ _ _ fun j _ => close_cell T Kn (c, some (K, j)) 1 (duties_later T _)

theorem close_spare : iprop(pers T Kn ∗ spare (F := F) c) ⊢ |={Set.univ}=> bigSep Finset.univ fun K : Fin 8 => semVal (dcell c K c) 0 :=
  close_all _ _ _ _ fun K _ => close_cell T Kn (c, some (K, c)) 0 (fun r _ => duties_own T c K r)

theorem close_device : iprop(pers T Kn ∗ after (F := F) c ∗ spare (F := F) c) ⊢ |={Set.univ}=> zeros (F := F) c := by
  unfold after zeros
  rw [bigSep_cells, bigSep_congr (s := Finset.univ) (fun (K : Fin 8) _ => bigSep_oth c (fun j => (semVal (kcell (c, some (K, j))) 0 : sProp 𝕄))),
    bigSep_sep', bigSep8 (fun K => oth c fun j => (semVal (kcell (c, some (K, j))) 0 : sProp 𝕄))]
  iintro ⟨#HP, ⟨Hb, H0, H1, H2, H3, H4, H5, H6, H7⟩, HS⟩
  imod (close_cell T Kn (c, none) 1 (duties_later T _)) $$ [Hb] with Hb
  · isplitr; · iexact HP
    iexact Hb
  imod (close_done T Kn c 0) $$ [H0] with H0
  · isplitr; · iexact HP
    iexact H0
  imod (close_done T Kn c 1) $$ [H1] with H1
  · isplitr; · iexact HP
    iexact H1
  imod (close_done T Kn c 2) $$ [H2] with H2
  · isplitr; · iexact HP
    iexact H2
  imod (close_done T Kn c 3) $$ [H3] with H3
  · isplitr; · iexact HP
    iexact H3
  imod (close_done T Kn c 4) $$ [H4] with H4
  · isplitr; · iexact HP
    iexact H4
  imod (close_done T Kn c 5) $$ [H5] with H5
  · isplitr; · iexact HP
    iexact H5
  imod (close_done T Kn c 6) $$ [H6] with H6
  · isplitr; · iexact HP
    iexact H6
  imod (close_done T Kn c 7) $$ [H7] with H7
  · isplitr; · iexact HP
    iexact H7
  imod (close_spare T Kn c) $$ [HS] with HS
  · isplitr; · iexact HP
    iexact HS
  imodintro
  iframe Hb HS H0 H1 H2 H3 H4 H5 H6 H7

end

end Cert.Moe
-- ==== Proof.Deal.lean ====
/-
# What the launch deals

Every device's cells are opened at once, under one map of names that all devices know. The right to pay a cell is minted with the
cell and handed to the device that pays: a signal's and an arrival's right belongs to the sender. What all devices owe a cell at
launch is what its owner waits for.
-/
module

public import proofs.«01_k».proof.Proof.Cells

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the rights, minted -/

theorem kcell_injective : Function.Injective kcell := by
  rintro ⟨c, k⟩ ⟨c', k'⟩ h
  have h1 : c = c' := congrArg (fun g : GSem nD τ sig => g.1.1) h
  have h2 : ksem k = ksem k' := congrArg Prod.snd h
  have h3 : k = k' := by clear h h1 c c'; revert k k'; decide
  rw [h1, h3]

def allCells : Finset (GSem nD τ sig) := Finset.univ.map ⟨kcell, kcell_injective⟩

abbrev tokOf (x : (Dev nD × CellIx) × Fin 4) : GSem nD τ sig × ℕ × Fin 4 := (kcell x.1, 0, x.2)
theorem tokOf_injective : Function.Injective tokOf := by
  rintro ⟨a, d⟩ ⟨a', d'⟩ h
  have h1 : a = a' := kcell_injective (congrArg Prod.fst h)
  have h2 : d = d' := congrArg (fun x : GSem nD τ sig × ℕ × Fin 4 => x.2.2) h
  rw [h1, h2]
def allToks : Finset (GSem nD τ sig × ℕ × Fin 4) := Finset.univ.map ⟨tokOf, tokOf_injective⟩

def u₀ : UU := (initOf (Pipeline.cells cfgs cellOf_inj) (Pipeline.launchToks cfgs cellOf_inj), initOf allCells allToks)

section
variable (T : Blocks F)

/-- The rights to pay device `c`'s cells. -/
def minted (c : Dev nD) : sProp 𝕄 := bigSep Finset.univ fun k : CellIx => bigSep Finset.univ fun d : Fin 4 => (dutyTok ER (kcell (c, k)) 0 d : sProp 𝕄)

/-- What the launch element deals device `c`. -/
def G (c : Dev nD) : sProp 𝕄 :=
  iprop((bigSep Finset.univ fun k : CellIx => roundState ER (Rd T) (kcell (c, k)) 0)
    ∗ (bigSep Finset.univ fun k : CellIx => (reached ER (kcell (c, k)) 0 : sProp 𝕄))
    ∗ (bigSep Finset.univ fun k : CellIx => (atPos ER (kcell (c, k)) 0 ∅ 0 : sProp 𝕄)) ∗ minted (F := F) c)

theorem fund : BI.own (ER (initOf allCells allToks)) ⊢ (|==> bigSep Finset.univ (G T) : sProp 𝕄) := by
  have hX (Φ : GSem nD τ sig → sProp 𝕄) : bigSep allCells Φ = bigSep Finset.univ fun c : Dev nD => bigSep Finset.univ fun k : CellIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => minted (F := F) c := by
    unfold allToks; rw [bigSep_map, bigSep_univ_prod, bigSep_univ_prod]; rfl
  iintro HX
  imod (Rounds.fund ER (Rd T) allCells allToks) $$ HX with ⟨Hst, Hr, Hat, Htok⟩
  imodintro
  ihave Hst := (BIBase.Entails.of_eq (hX fun g => roundState ER (Rd T) g 0)) $$ Hst
  ihave Hr := (BIBase.Entails.of_eq (hX fun g => reached ER g 0)) $$ Hr
  ihave Hat := (BIBase.Entails.of_eq (hX fun g => atPos ER g 0 ∅ 0)) $$ Hat
  ihave Htok := (BIBase.Entails.of_eq hT) $$ Htok
  unfold G; simp only [bigSep_sep']
  iframe Hst Hr Hat Htok

/-! ## The cells opened -/

/-- The kernel's own thirty-two semaphores. -/
abbrev osem (Kj : Fin 8 × Fin 4) : SemLoc sig := ksem (some Kj)
theorem ownSemFacts : Pipeline.OwnSemFacts cfg0.spec osem := by decide

abbrev own0 (c : Dev nD) : sProp 𝕄 := Pipeline.ownSems0 (Ix := Unit) (Name := ℕ) (U := UU) (Lvl := ℕ) (Val := Elt F) (τ := τ) osem c

/-- The barrier semaphore is the only one not the kernel's own. -/
theorem unscopedSems0_eq (c : Dev nD) : (unscopedSems0 c : sProp 𝕄) = semVal (bcell c) 0 := by
  unfold unscopedSems0; rw [bigSep_eq_bigSepL_of_eq [SemLoc.reg barS] (by decide) (by decide)]; rfl

theorem zeros_eq (c : Dev nD) : zeros (F := F) c = iprop(unscopedSems0 c ∗ own0 (F := F) c) := by
  unfold zeros own0 Pipeline.ownSems0
  rw [bigSep_cells, unscopedSems0_eq, bigSep_univ_prod (fun Kj : Fin 8 × Fin 4 => (semVal ((c.tc : Thread nD τ), osem Kj) 0 : sProp 𝕄))]

theorem open_cells (c : Dev nD) :
    iprop(zeros (F := F) c ∗ bigSep Finset.univ fun k : CellIx => roundState ER (Rd T) (kcell (c, k)) 0)
      ⊢ |={Set.univ}=> bigSep Finset.univ fun k : CellIx => iprop(∃ κ : ℕ, cellInv ER (Rd T) κ (kcell (c, k))) := by
  unfold zeros
  rw [← bigSep_sep']
  exact BIBase.Entails.trans (bigSep_mono fun k _ => BIBase.Entails.trans (Rounds.body_intro ER (Rd T) (kcell (c, k))) inv_alloc) (bigSep_fupd _ _)

/-! ## The rights, handed to the devices that pay -/

/-- The rights device `c` is handed, those at its own index included. -/
def handed (c : Dev nD) : sProp 𝕄 :=
  iprop((bigSep Finset.univ fun j => (dutyTok ER (bcell j) 0 c : sProp 𝕄))
    ∗ ((bigSep Finset.univ fun j => tok (F := F) c 0 j) ∗ (bigSep Finset.univ fun j => tok (F := F) j 1 c))
    ∗ ((bigSep Finset.univ fun j => tok (F := F) c 2 j) ∗ (bigSep Finset.univ fun j => tok (F := F) j 3 c))
    ∗ ((bigSep Finset.univ fun j => tok (F := F) c 4 j) ∗ (bigSep Finset.univ fun j => tok (F := F) j 5 c))
    ∗ ((bigSep Finset.univ fun j => tok (F := F) c 6 j) ∗ (bigSep Finset.univ fun j => tok (F := F) j 7 c)))

theorem rights_of_handed (c : Dev nD) : handed (F := F) c ⊢ rights (F := F) c := by
  unfold handed rights
  exact BI.sep_mono (drop_self c _) (BI.sep_mono (BI.sep_mono (drop_self c _) (drop_self c _)) (BI.sep_mono (BI.sep_mono (drop_self c _) (drop_self c _))
    (BI.sep_mono (BI.sep_mono (drop_self c _) (drop_self c _)) (BI.sep_mono (drop_self c _) (drop_self c _)))))

/-- The rights to pay device `c`'s cells, kind by kind. -/
def mine (c : Dev nD) : sProp 𝕄 :=
  iprop((bigSep Finset.univ fun d => (dutyTok ER (bcell c) 0 d : sProp 𝕄))
    ∗ ((bigSep Finset.univ fun j => tok (F := F) c 0 j) ∗ (bigSep Finset.univ fun j => tok (F := F) c 1 j))
    ∗ ((bigSep Finset.univ fun j => tok (F := F) c 2 j) ∗ (bigSep Finset.univ fun j => tok (F := F) c 3 j))
    ∗ ((bigSep Finset.univ fun j => tok (F := F) c 4 j) ∗ (bigSep Finset.univ fun j => tok (F := F) c 5 j))
    ∗ ((bigSep Finset.univ fun j => tok (F := F) c 6 j) ∗ (bigSep Finset.univ fun j => tok (F := F) c 7 j)))

theorem mine_of_minted (c : Dev nD) : minted (F := F) c ⊢ mine (F := F) c := by
  have h (K : Fin 8) : (bigSep Finset.univ fun j : Fin 4 => bigSep Finset.univ fun d : Fin 4 => (dutyTok ER (kcell (c, some (K, j))) 0 d : sProp 𝕄))
      ⊢ bigSep Finset.univ fun j => tok (F := F) c K j := bigSep_mono fun j _ => bigSep_elim (Finset.mem_univ 0)
  unfold minted mine
  rw [bigSep_cells, bigSep8]
  iintro ⟨Hb, H0, H1, H2, H3, H4, H5, H6, H7⟩
  ihave H0 := (h 0) $$ H0
  ihave H1 := (h 1) $$ H1
  ihave H2 := (h 2) $$ H2
  ihave H3 := (h 3) $$ H3
  ihave H4 := (h 4) $$ H4
  ihave H5 := (h 5) $$ H5
  ihave H6 := (h 6) $$ H6
  ihave H7 := (h 7) $$ H7
  iframe Hb H0 H1 H2 H3 H4 H5 H6 H7

theorem bigSep_swap (Φ : Fin 4 → Fin 4 → sProp 𝕄) :
    (bigSep Finset.univ fun c => bigSep Finset.univ fun j => Φ c j) = bigSep Finset.univ fun c => bigSep Finset.univ fun j => Φ j c :=
  (bigSep_univ_prod fun cj : Fin 4 × Fin 4 => Φ cj.1 cj.2).symm.trans
    ((bigSep_univ_equiv (Equiv.prodComm (Fin 4) (Fin 4)) fun cj : Fin 4 × Fin 4 => Φ cj.1 cj.2).trans (bigSep_univ_prod fun cj : Fin 4 × Fin 4 => Φ cj.2 cj.1))

theorem hand_over : (bigSep Finset.univ fun c : Dev nD => minted (F := F) c) ⊢ bigSep Finset.univ fun c : Dev nD => rights (F := F) c := by
  refine BIBase.Entails.trans (bigSep_mono fun c _ => mine_of_minted c) (BIBase.Entails.trans (BIBase.Entails.of_eq ?_) (bigSep_mono fun c _ => rights_of_handed c))
  unfold mine handed
  simp only [bigSep_sep']
  rw [bigSep_swap (fun c d => (dutyTok ER (bcell c) 0 d : sProp 𝕄)), bigSep_swap (fun c j => tok (F := F) c 1 j), bigSep_swap (fun c j => tok (F := F) c 3 j),
    bigSep_swap (fun c j => tok (F := F) c 5 j), bigSep_swap (fun c j => tok (F := F) c 7 j)]

/-! ## All devices at once -/

/-- Names, and the cells' invariants and first rounds under them. -/
def records (Kn : Dev nD × CellIx → ℕ) : sProp 𝕄 :=
  iprop((bigSep Finset.univ fun ck : Dev nD × CellIx => cellInv ER (Rd T) (Kn ck) (kcell ck))
    ∗ (bigSep Finset.univ fun ck : Dev nD × CellIx => reached ER (kcell ck) 0))
instance records_persistent (Kn : Dev nD × CellIx → ℕ) : BI.Persistent (records T Kn) := by unfold records; infer_instance

/-- What a device starts from, its credits and inputs aside. -/
def G' (c : Dev nD) : sProp 𝕄 := iprop(∃ Kn, records T Kn ∗ before (F := F) c ∗ spare (F := F) c ∗ rights (F := F) c)

theorem core_open (c : Dev nD) :
    iprop(own0 (F := F) c ∗ unscopedSems0 c ∗ G T c)
      ⊢ |={Set.univ}=> iprop((bigSep Finset.univ fun k : CellIx => iprop(∃ κ : ℕ, cellInv ER (Rd T) κ (kcell (c, k))))
          ∗ (bigSep Finset.univ fun k : CellIx => (reached ER (kcell (c, k)) 0 : sProp 𝕄)) ∗ (before (F := F) c ∗ spare (F := F) c) ∗ minted (F := F) c) := by
  unfold G
  rw [before_spare]
  iintro ⟨Ho, Hu, Hst, Hr, Hat, Htok⟩
  imod (open_cells T c) $$ [Ho Hu Hst] with Hinv
  · rw [zeros_eq]; iframe Ho Hu Hst
  imodintro
  iframe Hinv Hr Hat Htok

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  BIBase.Entails.trans (sep_mono_left (BI.bigSep_of_persistent S R)) (by rw [← bigSep_sep']; exact bigSep_mono h)

theorem regroup :
    (bigSep Finset.univ fun c : Dev nD => iprop((bigSep Finset.univ fun k : CellIx => iprop(∃ κ : ℕ, cellInv ER (Rd T) κ (kcell (c, k))))
          ∗ (bigSep Finset.univ fun k : CellIx => (reached ER (kcell (c, k)) 0 : sProp 𝕄)) ∗ (before (F := F) c ∗ spare (F := F) c) ∗ minted (F := F) c))
      ⊢ bigSep Finset.univ (G' T) := by
  rw [bigSep_sep', bigSep_sep', bigSep_sep' Finset.univ (fun c : Dev nD => iprop(before (F := F) c ∗ spare (F := F) c)),
    ← bigSep_univ_prod (fun ck : Dev nD × CellIx => iprop(∃ κ : ℕ, cellInv ER (Rd T) κ (kcell ck))),
    ← bigSep_univ_prod (fun ck : Dev nD × CellIx => (reached ER (kcell ck) 0 : sProp 𝕄))]
  iintro ⟨HI, #HR, Hat, Htok⟩
  ihave HK := (BI.bigSep_exists_pi Finset.univ (fun (ck : Dev nD × CellIx) (κ : ℕ) => (cellInv ER (Rd T) κ (kcell ck) : sProp 𝕄))) $$ HI
  icases HK with ⟨%Kn, #HI⟩
  ihave Htk := (hand_over (F := F)) $$ Htok
  iapply (with_persistent (S := Finset.univ) (R := records T Kn) (Φ := fun c : Dev nD => iprop((before (F := F) c ∗ spare (F := F) c) ∗ rights (F := F) c)) (Ψ := G' T)
    fun c _ => by
      unfold G'
      iintro ⟨#HP, ⟨Hb, Hs⟩, Ht⟩
      iexists Kn
      isplitr; · iexact HP
      iframe Hb Hs Ht)
  isplitr
  · unfold records; isplitl; · iexact HI
    iexact HR
  iapply (BIBase.Entails.of_eq (bigSep_sep' Finset.univ (fun c : Dev nD => iprop(before (F := F) c ∗ spare (F := F) c)) (fun c => rights (F := F) c)).symm)
  isplitl [Hat]; · iexact Hat
  iexact Htk

theorem glob : (bigSep Finset.univ fun c : Dev nD => iprop(own0 (F := F) c ∗ unscopedSems0 c ∗ G T c)) ⊢ |={Set.univ}=> bigSep Finset.univ (G' T) :=
  BIBase.Entails.trans (BIBase.Entails.trans (bigSep_mono fun c _ => core_open T c) (bigSep_fupd _ _)) (BI.fupd_mono (regroup T))

end

end Cert.Moe
-- ==== Proof.Body.lean ====
/-
# The kernel body on every device

The region has one point. Its body starts from what the launch deals, the four inputs' blocks and the scratch buffers, and ends
with device `c`'s block of the result in the output's staging buffer, every cell closed at zero.
-/
module

public import proofs.«01_k».proof.Proof.Deal
public import proofs.«01_k».proof.Proof.Gen.KernelIdeal.Points

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The initial state: memory `m`, counters zero, generators `ρ`. -/
abbrev s₀ : MemSt nD τ sig (Elt F) := ⟨m, fun _ => 0, ρ⟩

/-- What the devices hold at launch. -/
def held : Blocks F where
  x c := (win0_0.blk (0 : Fin 1)).view.read (Elt F) ((s₀ m ρ).mem ((c : Thread nD τ).loc main_arg0))
  r c := (win0_1.blk (0 : Fin 1)).view.read (Elt F) ((s₀ m ρ).mem ((c : Thread nD τ).loc main_arg1))
  w1 c := (win0_2.blk (0 : Fin 1)).view.read (Elt F) ((s₀ m ρ).mem ((c : Thread nD τ).loc main_arg2))
  w2 c := (win0_3.blk (0 : Fin 1)).view.read (Elt F) ((s₀ m ρ).mem ((c : Thread nD τ).loc main_arg3))

/-- What device `c`'s body starts from, inputs and buffers aside. -/
def start (c : Dev nD) : sProp 𝕄 :=
  iprop((∃ Kn, pers (held m ρ) Kn ∗ before (F := F) c ∗ spare (F := F) c ∗ rights (F := F) c) ∗ credits (F := F) c)

def Φ₀ (c : Dev nD) : sProp 𝕄 := iprop(start m ρ c ∗ scratch (F := F) c)

def Φ₁ (c : Dev nD) : sProp 𝕄 := iprop(zeros (F := F) c ∗ scratch (F := F) c)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => (held m ρ).x c
    | ⟨1, _⟩ => (held m ρ).r c
    | ⟨2, _⟩ => (held m ρ).w1 c
    | ⟨3, _⟩ => (held m ρ).w2 c
    | ⟨4, _⟩ => (held m ρ).O c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

def bodyPre (c : Dev nD) : sProp 𝕄 :=
  iprop(Φ₀ m ρ c ∗ (dats m ρ 0 c).owesAt () t0_0.castSucc
    ∗ (∃ d, own c xM fullShare ((dats m ρ 0 c).before (0 : Fin 5) t0_0 d))
    ∗ (∃ d, own c routerM fullShare ((dats m ρ 0 c).before (1 : Fin 5) t0_0 d))
    ∗ (∃ d, own c w1M fullShare ((dats m ρ 0 c).before (2 : Fin 5) t0_0 d))
    ∗ (∃ d, own c w2M fullShare ((dats m ρ 0 c).before (3 : Fin 5) t0_0 d))
    ∗ (∃ d, own c oM fullShare ((dats m ρ 0 c).before (4 : Fin 5) t0_0 d)))

def bodyPost (c : Dev nD) : sProp 𝕄 :=
  iprop(Φ₁ (F := F) c ∗ (dats m ρ 0 c).owesAt () t0_0.succ
    ∗ own c xM fullShare ((held m ρ).x c) ∗ own c routerM fullShare ((held m ρ).r c) ∗ own c w1M fullShare ((held m ρ).w1 c)
    ∗ own c w2M fullShare ((held m ρ).w2 c) ∗ own c oM fullShare ((held m ρ).O c))

theorem before_eq (c : Dev nD) :
    (∀ d, (dats m ρ 0 c).before (0 : Fin 5) t0_0 d = (held m ρ).x c) ∧ (∀ d, (dats m ρ 0 c).before (1 : Fin 5) t0_0 d = (held m ρ).r c)
      ∧ (∀ d, (dats m ρ 0 c).before (2 : Fin 5) t0_0 d = (held m ρ).w1 c) ∧ (∀ d, (dats m ρ 0 c).before (3 : Fin 5) t0_0 d = (held m ρ).w2 c) := by
  refine ⟨fun d => ?_, fun d => ?_, fun d => ?_, fun d => ?_⟩
  · unfold Pipeline.Dat.before; rw [if_pos (fetch0_0 t0_0)]; rfl
  · unfold Pipeline.Dat.before; rw [if_pos (fetch0_1 t0_0)]; rfl
  · unfold Pipeline.Dat.before; rw [if_pos (fetch0_2 t0_0)]; rfl
  · unfold Pipeline.Dat.before; rw [if_pos (fetch0_3 t0_0)]; rfl

/-- The cells of a device close under an update at the end of its program. -/
theorem run_prog (c : Dev nD) (Kn : Dev nD × CellIx → ℕ) :
    iprop(pers (held m ρ) Kn ∗ (before (F := F) c ∗ spare (F := F) c) ∗ credits (F := F) c ∗ rights (F := F) c ∗ scratch (F := F) c ∗ inputs (held m ρ) c ∗ some_ (F := F) c oM
        ∗ owing c (O₀ c))
      ⊢ wpc c (prog c) fun _ => iprop(zeros (F := F) c ∗ scratch (F := F) c ∗ inputs (held m ρ) c ∗ own c oM fullShare ((held m ρ).O c) ∗ owing c 0) := by
  have h := wpc_frame c (S := iprop(pers (held m ρ) Kn ∗ spare (F := F) c)) (sound_prog (held m ρ) Kn c)
  refine BIBase.Entails.trans (Q := iprop((pers (held m ρ) Kn ∗ before (F := F) c ∗ credits (F := F) c ∗ rights (F := F) c ∗ slots (F := F) c ∗ inputs (held m ρ) c
      ∗ some_ (F := F) c oM ∗ owing c (O₀ c)) ∗ pers (held m ρ) Kn ∗ spare (F := F) c)) ?_ (BIBase.Entails.trans h ?_)
  · iintro ⟨#HP, ⟨Hb, Hs⟩, Hc, Hr, Hscr, Hi, Ho, HO⟩
    ihave Hsl := (slots_of_scratch (F := F) c) $$ Hscr
    isplitl [Hb Hc Hr Hsl Hi Ho HO]
    · isplitr; · iexact HP
      iframe Hb Hc Hr Hsl Hi Ho HO
    isplitr; · iexact HP
    iexact Hs
  · unfold wpc
    refine BIBase.Entails.trans ?_ (wp_fupd _ _ _ _ _)
    refine wpc_mono c fun _ => ?_
    iintro ⟨⟨Ha, Hsl, Hi, Ho, HO⟩, #HP, Hs⟩
    imod (close_device (held m ρ) Kn c) $$ [Ha Hs] with Hz
    · isplitr; · iexact HP
      iframe Ha Hs
    imodintro
    ihave Hscr := (scratch_of_slots (F := F) c) $$ Hsl
    iframe Hz Hscr Hi Ho HO

set_option maxHeartbeats 800000 in
theorem sound_body (c : Dev nD) : bodyPre m ρ c ⊢ wpc c (body (F := F)) fun _ => bodyPost m ρ c := by
  obtain ⟨k, hk, hkc⟩ := body_eq (F := F)
  obtain ⟨h0, h1, h2, h3⟩ := before_eq m ρ c
  rw [hk]
  unfold wpc
  rw [wp_deviceId, hkc]
  unfold bodyPre Φ₀ start Pipeline.Dat.owesAt Pipeline.owesWithin
  simp only [h0, h1, h2, h3]
  iintro ⟨⟨⟨⟨%Kn, #HP, Hb, Hs, Hr⟩, Hc⟩, Hscr⟩, ⟨%W, %hW, HO⟩, ⟨%d0, H0⟩, ⟨%d1, H1⟩, ⟨%d2, H2⟩, ⟨%d3, H3⟩, ⟨%d4, H4⟩⟩
  rw [show (dats m ρ 0 c).owed t0_0.castSucc = O₀ c from rfl]
  iapply (wpc_end c (run_prog m ρ c Kn)) $$ [Hb Hs Hr Hc Hscr HO H0 H1 H2 H3 H4]
  · isplitr; · iexact HP
    isplitl [Hb Hs]; · iframe Hb Hs
    isplitl [Hc]; · iexact Hc
    isplitl [Hr]; · iexact Hr
    isplitl [Hscr]; · iexact Hscr
    isplitl [H0 H1 H2 H3]
    · unfold inputs; iframe H0 H1 H2 H3
    isplitl [H4]
    · iexists _; iexact H4
    unfold owing; iexists W; iexact HO
  iintro %a ⟨Hz, Hscr, Hi, Ho, HO⟩
  unfold bodyPost Φ₁ inputs owing Pipeline.Dat.owesAt Pipeline.owesWithin
  rw [show (dats m ρ 0 c).owed t0_0.succ = 0 from rfl]
  icases Hi with ⟨H0, H1, H2, H3⟩
  icases HO with ⟨%W', HO⟩
  isplitl [Hz Hscr]; · iframe Hz Hscr
  isplitl [HO]
  · iexists W'
    isplitr; · ipureintro; exact fun _ _ => Or.inl trivial
    iexact HO
  iframe H0 H1 H2 H3 Ho

set_option maxRecDepth 4000 in
/-- The library's obligation for the body on device `c`. -/
theorem body_obligation (c : Dev nD) : Pipeline.BodyObligation (dats (F := F) m ρ 0 c) (defs₀ (F := F)) 𝒱₀ () Set.univ := fun t => by
  rw [fin_N0 t]
  rw [bigSep_W0, bigSep_W0]
  exact sound_body m ρ c

end Cert.Moe
-- ==== Proof.Credits.lean ====
/-
# The credits a device is launched with

What the four devices owe a cell at launch, summed, is what the cell's owner waits for: three units at its barrier cell, a block's
credit at each cell that receives from another device.
-/
module

public import proofs.«01_k».proof.Proof.Deal

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem dcell_eq_iff {c c' : Dev nD} {K K' : Fin 8} {j j' : Fin 4} : dcell c K j = dcell c' K' j' ↔ c = c' ∧ K = K' ∧ j = j' :=
  ⟨fun h => by
    have := kcell_injective (a₁ := (c, some (K, j))) (a₂ := (c', some (K', j'))) h
    rw [Prod.mk.injEq, Option.some.injEq, Prod.mk.injEq] at this; exact this,
   fun ⟨h, h', h''⟩ => by rw [h, h', h'']⟩
theorem bcell_eq_iff {c c' : Dev nD} : bcell c = bcell c' ↔ c = c' :=
  ⟨fun h => (congrArg (fun g : GSem nD τ sig => g.1.1) h : _), fun h => by rw [h]⟩

theorem tail_apply (D : Fin 4 → Tally) (g : GSem nD τ sig) : tail D 0 g () = ∑ i, D i g () := by
  unfold tail
  rw [Finset.sum_congr rfl fun i _ => if_pos (Nat.zero_le i.val), Finset.sum_apply, Finsupp.finset_sum_apply]

theorem owedB_dma (d c : Dev nD) (K : Fin 8) (j : Fin 4) : tail (owedB d) 0 (dcell c K j) () = 0 := by
  rw [tail_apply]
  refine Finset.sum_eq_zero fun i _ => ?_
  unfold owedB; split
  · rfl
  · rw [tallyAt_apply, if_neg]
    intro h; have := congrArg Prod.snd h.1; cases this
theorem owedB_bar (d c : Dev nD) : tail (owedB d) 0 (bcell c) () = if d = c then 0 else 1 := by
  rw [tail_apply, Finset.sum_eq_single c]
  · unfold owedB
    by_cases h : c = d
    · rw [if_pos h, if_pos h.symm]; rfl
    · rw [if_neg h, if_neg fun e => h e.symm, tallyAt_apply, if_pos ⟨rfl, rfl⟩]
  · intro i _ hi
    unfold owedB; split
    · rfl
    · rw [tallyAt_apply, if_neg fun h => hi (bcell_eq_iff.mp h.1).symm]
  · exact fun h => absurd (Finset.mem_univ c) h
theorem owedD_bar (d c : Dev nD) (K : Fin 8) : tail (owedD d K) 0 (bcell c) () = 0 := by
  rw [tail_apply]
  refine Finset.sum_eq_zero fun i _ => ?_
  unfold owedD; split
  · rfl
  · rw [tallyAt_apply, if_neg]
    intro h; have := congrArg Prod.snd h.1; cases this
theorem owedD_dma (d c : Dev nD) (K K' : Fin 8) {j : Fin 4} (hj : j ≠ c) :
    tail (owedD d K') 0 (dcell c K j) () = if K' = K ∧ d = j then amt K.val else 0 := by
  rw [tail_apply, Finset.sum_eq_single c]
  · unfold owedD
    by_cases h : c = d
    · rw [if_pos h, if_neg fun e => hj (e.2.symm.trans h.symm)]; rfl
    · rw [if_neg h, tallyAt_apply]
      by_cases h' : K' = K ∧ d = j
      · rw [if_pos h', if_pos ⟨dcell_eq_iff.mpr ⟨rfl, h'.1.symm, h'.2.symm⟩, rfl⟩, h'.1]
      · rw [if_neg h', if_neg fun e => h' ⟨(dcell_eq_iff.mp e.1).2.1.symm, (dcell_eq_iff.mp e.1).2.2.symm⟩]
  · intro i _ hi
    unfold owedD; split
    · rfl
    · rw [tallyAt_apply, if_neg fun h => hi (dcell_eq_iff.mp h.1).1.symm]
  · exact fun h => absurd (Finset.mem_univ c) h

theorem O₀_apply (d : Dev nD) (g : GSem nD τ sig) :
    O₀ d g () = tail (owedD d 7) 0 g () + tail (owedD d 5) 0 g () + tail (owedD d 1) 0 g () + tail (owedD d 3) 0 g () + tail (owedB d) 0 g () := by
  unfold O₀ oR oX oW oP
  simp only [Pi.add_apply, Finsupp.add_apply]

theorem O₀_bar (d c : Dev nD) : O₀ d (bcell c) () = if d = c then 0 else 1 := by
  rw [O₀_apply, owedD_bar, owedD_bar, owedD_bar, owedD_bar, owedB_bar, Nat.zero_add]
theorem O₀_dma (d c : Dev nD) (K : Fin 8) {j : Fin 4} (hj : j ≠ c) (hK : K = 1 ∨ K = 3 ∨ K = 5 ∨ K = 7) :
    O₀ d (dcell c K j) () = if d = j then amt K.val else 0 := by
  rw [O₀_apply, owedD_dma _ _ _ _ hj, owedD_dma _ _ _ _ hj, owedD_dma _ _ _ _ hj, owedD_dma _ _ _ _ hj, owedB_dma]
  by_cases h : d = j
  · simp only [h, and_true, if_true]
    rcases hK with rfl | rfl | rfl | rfl <;> simp
  · simp only [h, and_false, if_false]

theorem launch_bar (c : Dev nD) :
    tallyOn (bcell c) (launchCredit (Pipeline.owing O₀) 0 (bcell c)) = (tallyAt (bcell c) () 3 : Tally) := by
  unfold tallyAt; refine congrArg _ (Finsupp.ext fun u => ?_); cases u
  rw [Pipeline.launchCredit_owing, Finsupp.single_eq_same, Finset.sum_congr rfl fun d _ => O₀_bar d c]
  revert c; decide

theorem launch_dma (c : Dev nD) (K : Fin 8) {j : Fin 4} (hj : j ≠ c) (hK : K = 1 ∨ K = 3 ∨ K = 5 ∨ K = 7) :
    tallyOn (dcell c K j) (launchCredit (Pipeline.owing O₀) 0 (dcell c K j)) = (tallyAt (dcell c K j) () (amt K.val) : Tally) := by
  unfold tallyAt; refine congrArg _ (Finsupp.ext fun u => ?_); cases u
  rw [Pipeline.launchCredit_owing, Finsupp.single_eq_same, Finset.sum_congr rfl fun d _ => O₀_dma d c K hj hK,
    Finset.sum_ite_eq' Finset.univ j fun _ => amt K.val, if_pos (Finset.mem_univ _)]

theorem ksem_injective : Function.Injective ksem := by decide

theorem creds (c : Dev nD) : (Pipeline.launchCred O₀ c : sProp 𝕄) ⊢ credits (F := F) c := by
  have h₁ : (Pipeline.launchCred O₀ c : sProp 𝕄) ⊢ bigSep Finset.univ fun k : CellIx => cred (tallyOn (kcell (c, k)) (launchCredit (Pipeline.owing O₀) 0 (kcell (c, k)))) := by
    unfold Pipeline.launchCred
    refine BIBase.Entails.trans (bigSep_subset (Finset.subset_univ (Finset.univ.map ⟨ksem, ksem_injective⟩))) (BIBase.Entails.of_eq ?_)
    rw [bigSep_map]; rfl
  have h₂ (K : Fin 8) (hK : K = 1 ∨ K = 3 ∨ K = 5 ∨ K = 7) :
      (bigSep Finset.univ fun j : Fin 4 => cred (tallyOn (kcell (c, some (K, j))) (launchCredit (Pipeline.owing O₀) 0 (kcell (c, some (K, j))))))
        ⊢ oth c (credit (F := F) c K) :=
    BIBase.Entails.trans (drop_self c _) (oth_mono c fun j hj => BIBase.Entails.of_eq (by rw [launch_dma c K hj hK]))
  refine h₁.trans ?_
  rw [bigSep_cells, bigSep8]
  unfold credits
  iintro ⟨Hb, -, H1, -, H3, -, H5, -, H7⟩
  ihave Hb := (BIBase.Entails.of_eq (show (cred (tallyOn (bcell c) (launchCredit (Pipeline.owing O₀) 0 (bcell c))) : sProp 𝕄) = cred (tallyAt (bcell c) () 3) by rw [launch_bar])) $$ Hb
  ihave H1 := (h₂ 1 (by decide)) $$ H1
  ihave H3 := (h₂ 3 (by decide)) $$ H3
  ihave H5 := (h₂ 5 (by decide)) $$ H5
  ihave H7 := (h₂ 7 (by decide)) $$ H7
  iframe Hb H1 H3 H5 H7

end Cert.Moe
-- ==== Proof.Run.lean ====
/-
# The run on the mesh

Every execution of the four kernels ends, with every counter back at zero, the inputs as they were and each device's result array
at what its output staging buffer held.
-/
module

public import proofs.«01_k».proof.Proof.Body
public import proofs.«01_k».proof.Proof.Credits
public import Idealize.ShloMosaic.Lib.Pipeline.CollectiveSegs
public import Idealize.ShloMosaic.Lib.Quiescent

@[expose] public section

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m ρ 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (held m ρ) c)
      ⊢ |={Set.univ}=> iprop(start m ρ c ∗ emp) := by
  unfold start G' records
  iintro ⟨-, Hlev, Hcr, -, ⟨%Kn, ⟨HI, HR⟩, Hb, Hs, Ht⟩⟩
  ihave Hc := (creds (F := F) c) $$ Hcr
  imodintro
  isplitl
  · isplitr [Hc]
    · iexists Kn
      isplitl [HI HR Hlev]
      · unfold pers; iframe HI HR Hlev
      iframe Hb Hs Ht
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest_eq]
  unfold Φ₀
  iintro ⟨Hs, -, Hr⟩
  iframe Hs Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest_eq]
  unfold Φ₁
  rw [zeros_eq]
  iintro ⟨⟨Hu, Ho⟩, Hr⟩
  iframe Hu Ho Hr

theorem lv_stage : ∀ (w : Fin cfg0.W) (s : Fin (cfg0.spec w).nbuf) (c : Dev nD), lv ((c : Thread nD τ), .dma ((cfg0.spec w).sem s)) () = 0 := by decide

theorem waits (c : Dev nD) : (levAts L lv : sProp 𝕄) ⊢ Pipeline.cellsWaits cfgs (dats m ρ) () 0 c :=
  Pipeline.cellsWaits_intro cfgs (dats m ρ) () 0 c fun w s t =>
    mayWait c _ (n := 0) (le_of_eq (lv_stage w s c)) (by
      rcases t with ⟨_ | _, ht⟩
      · exact above_O₀ c
      · exact above_zero 0)

/-- Window `w`'s array on device `c` after the run. -/
def finalA (c : Dev nD) (w : Fin cfg0.W) : Buf (Elt F) ((cfg0.win w).arr.view.loc (c : Thread nD τ)) := (dats m ρ 0 c).arrAt w cfg0.N

set_option maxRecDepth 8000 in
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (held m ρ)) (G' := G' (held m ρ)) (u₀ := u₀)
    (hu₀ := by
      unfold u₀
      iintro Hu
      ihave H := (ownU_pair _ _) $$ Hu
      icases H with ⟨HP, HX⟩
      imod (fund (held m ρ)) $$ HX with HG
      imodintro
      isplitl [HP] <;> iassumption)
    (hglob := glob (held m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Moe
-- ==== Proof.Frames.lean ====
/-
# The frames

Each program, run from any memory, ends with its arguments as they were and every semaphore counter at zero. For the kernel both
readings come from the one run of `Cert.Moe.run_main`; the reference is a straight line of host operations that declares no semaphore.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import Idealize.ShloMosaic.Lib.Quiescent

@[expose] public section

noncomputable section

namespace Cert.Moe

open Idealize.ShloMosaic Idealize.SL.Sem
open Cert.KernelIdeal Cert.KernelIdeal.Gen

variable {F : FTy → Type} [FloatOps F]

/-- What the run says of the arguments: each of the four is as it was, for the kernel only reads them. -/
theorem run_args (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
      ⟨(h.1 c 0).trans ((dats m ρ 0 c).arrAt_in (0 : Fin 5) rfl _), (h.1 c 1).trans ((dats m ρ 0 c).arrAt_in (1 : Fin 5) rfl _),
       (h.1 c 2).trans ((dats m ρ 0 c).arrAt_in (2 : Fin 5) rfl _), (h.1 c 3).trans ((dats m ρ 0 c).arrAt_in (3 : Fin 5) rfl _)⟩, h.2⟩)
    (run_main m ρ)

/-! The two printed programs are one text: the kernel's body table and main are the ideal program's at the same float values. -/

theorem body_same : Cert.Kernel.cc0_body (F := F) = Cert.KernelIdeal.cc0_body (F := F) := rfl

theorem defs₀_same : Cert.Kernel.defs₀ (F := F) = Cert.KernelIdeal.defs₀ (F := F) := by
  unfold Cert.Kernel.defs₀ Cert.KernelIdeal.defs₀
  rw [body_same]
  refine congrArg Defs.onTc (funext fun l => funext fun a => ?_)
  match l, a with
  | 0, (t, s) => rfl
  | ⟨n + 1, h⟩, _ => exact absurd h (Nat.not_lt.2 (Nat.le_add_left _ _))

theorem defs_same : Cert.Kernel.defs (F := F) = Cert.KernelIdeal.defs (F := F) := congrArg (Pipeline.defs Cert.KernelIdeal.pcfgs) defs₀_same

theorem frame_kernel : Cert.quiescent_Kernel := fun m ρ _ => by
  rw [defs_same]
  exact run_args (F := Bits) m ρ

theorem frame_ideal : Cert.quiescent_KernelIdeal := fun m ρ _ => run_args (F := Ideal) m ρ

theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

end Cert.Moe

end
-- ==== Proof.Ends.lean ====
/-
# What each device starts from and ends with

Every window of the kernel is a whole array: what a device reads is its arguments, and its result array ends at what the output's
staging buffer held.
-/
module

public import proofs.«01_k».proof.Proof.Run
public import Idealize.ShloMosaic.Lib.Pipeline.Value

@[expose] public section

noncomputable section

namespace Cert.Moe

open Cert.KernelIdeal Cert.KernelIdeal.Gen
open Idealize.ShloMosaic
open Idealize.ShloMosaic.TcCoe

variable {F : FTy → Type} [FloatOps F] (m : (ℓ : Loc nD τ sig) → Buf (Elt F) ℓ) (ρ : Dev nD → PrngReg)

/-! A whole array's one block lies in the array as it is. -/

theorem emb_x (i : S128x512.Idx) : (win0_0.blk (0 : Fin 1)).view.emb i = i :=
  funext fun a => Fin.ext (by show 0 * _ + 1 * _ = _; omega)
theorem emb_r (i : S512x2.Idx) : (win0_1.blk (0 : Fin 1)).view.emb i = i :=
  funext fun a => Fin.ext (by show 0 * _ + 1 * _ = _; omega)
theorem emb_w1 (i : S2x512x1024.Idx) : (win0_2.blk (0 : Fin 1)).view.emb i = i :=
  funext fun a => Fin.ext (by show 0 * _ + 1 * _ = _; omega)
theorem emb_w2 (i : S2x1024x512.Idx) : (win0_3.blk (0 : Fin 1)).view.emb i = i :=
  funext fun a => Fin.ext (by show 0 * _ + 1 * _ = _; omega)
theorem emb_o (t : Fin 1) (i : S128x512.Idx) : (win0_4.blk t).view.emb i = i :=
  funext fun a => Fin.ext (by show 0 * _ + 1 * _ = _; omega)

/-! What each device reads is its arguments. -/

theorem held_x (c : Dev nD) : (held m ρ).x c = m ((c.tc : Thread nD τ).loc main_arg0) :=
  funext fun i => congrArg (m ((c.tc : Thread nD τ).loc main_arg0)) (emb_x i)
theorem held_r (c : Dev nD) : (held m ρ).r c = m ((c.tc : Thread nD τ).loc main_arg1) :=
  funext fun i => congrArg (m ((c.tc : Thread nD τ).loc main_arg1)) (emb_r i)
theorem held_w1 (c : Dev nD) : (held m ρ).w1 c = m ((c.tc : Thread nD τ).loc main_arg2) :=
  funext fun i => congrArg (m ((c.tc : Thread nD τ).loc main_arg2)) (emb_w1 i)
theorem held_w2 (c : Dev nD) : (held m ρ).w2 c = m ((c.tc : Thread nD τ).loc main_arg3) :=
  funext fun i => congrArg (m ((c.tc : Thread nD τ).loc main_arg3)) (emb_w2 i)

/-- The result array of device `c` ends at what its output's staging buffer held. -/
theorem final_o (c : Dev nD) : finalA m ρ c (4 : Fin 5) = (held m ρ).O c :=
  (dats m ρ 0 c).arrAt_eq_of_cover (4 : Fin 5) ((held m ρ).O c)
    (fun t _ => funext fun j => (congrArg ((held m ρ).O c) (emb_o t j)).symm)
    (fun i => ⟨t0_0, flush0_4 _, Finset.mem_map.mpr ⟨i, Finset.mem_univ _, emb_o _ i⟩⟩)

end Cert.Moe

end
-- ==== Proof.Model.lean ====
/-
# The layer, one row at a time

A row of tokens has eight gates, of which two are followed: `Routed g a b` says that gate `a` is the largest and gate `b` the second.
The kernel weighs every expert and gives the others nothing (`weight`); the reference follows the two it has sorted to the front. On
a routed row both come to the two experts' outputs, weighted by the softmax of their two gates.
-/
module

public import Idealize.ShloMosaic.PureOps.Ideal
public import Idealize.ShloMosaic.Lib.SortFacts

@[expose] public section

noncomputable section

namespace Cert.Moe

open Idealize.ShloMosaic

/-- What the kernel puts in place of the largest gate, -1e30 as an f32 pattern. -/
def low : EReal := Ideal.ofBits .f32 0xF149F2CA#32

theorem bot_lt_low : ⊥ < low := by
  simp [low, Ideal.ofBits, Ideal.ieee]
  rw [← EReal.coe_pow, ← EReal.coe_mul, ← EReal.coe_neg]
  exact EReal.bot_lt_coe _

theorem top_pattern : Ideal.ofBits .f32 0x7F800000#32 = (⊤ : EReal) := by
  simp [Ideal.ofBits, Ideal.ieee]

theorem bot_eq : Ideal.ofBits .f32 0xFF800000#32 = (⊥ : EReal) := by
  simp [Ideal.ofBits, Ideal.ieee]

/-- Gate `a` is the largest of the eight, gate `b` the largest of the rest; the one is finite, the other no less than what
the kernel puts in the largest's place. -/
structure Routed (g : Fin 8 → EReal) (a b : Fin 8) : Prop where
  ne : a ≠ b
  first : ∀ e, e ≠ a → g e < g a
  second : ∀ e, e ≠ a → e ≠ b → g e < g b
  finite : g a < ⊤
  reached : low ≤ g b

/-- An expert applied to a row of tokens, at one column of its result. -/
def ffn (x : Fin 512 → EReal) (w1 : Fin 512 → Fin 1024 → EReal) (w2 : Fin 1024 → EReal) : EReal :=
  ∑ k, max (∑ l, x l * w1 l k) 0 * w2 k

/-- The row's gates. -/
def gates (x : Fin 512 → EReal) (router : Fin 512 → Fin 8 → EReal) (e : Fin 8) : EReal := ∑ l, x l * router l e

/-- The largest gate, and the largest where every gate that reaches it is put down. -/
def top (g : Fin 8 → EReal) : EReal := Finset.univ.fold max ⊥ g
def next (g : Fin 8 → EReal) : EReal := Finset.univ.fold max ⊥ fun e => if top g ≤ g e then low else g e

/-- The kernel's weight of expert `e`. -/
def weight (g : Fin 8 → EReal) (e : Fin 8) : EReal :=
  if next g ≤ g e then Ideal.div (Ideal.exp (g e - top g)) (1 + Ideal.exp (next g - top g)) else 0

/-- The softmax of the two gates followed: the larger's weight, the other's. -/
def soft (p q : EReal) (v : EReal) : EReal := Ideal.div (Ideal.exp (v - p)) (Ideal.exp (p - p) + Ideal.exp (q - p))

theorem fold_max_eq {f : Fin 8 → EReal} (a : Fin 8) (h : ∀ e, f e ≤ f a) : Finset.univ.fold max ⊥ f = f a := by
  apply le_antisymm
  · exact (Finset.fold_max_le _).mpr ⟨bot_le, fun e _ => h e⟩
  · exact (Finset.le_fold_max _).mpr (Or.inr ⟨a, Finset.mem_univ a, le_rfl⟩)

namespace Routed
variable {g : Fin 8 → EReal} {a b : Fin 8} (h : Routed g a b)
include h

theorem le_first (e : Fin 8) : g e ≤ g a := by
  rcases eq_or_ne e a with rfl | he
  · exact le_rfl
  · exact (h.first e he).le

theorem top_eq : top g = g a := fold_max_eq a h.le_first

theorem next_eq : next g = g b := by
  have hb : ¬ g a ≤ g b := not_le.mpr (h.first b h.ne.symm)
  have := fold_max_eq (f := fun e => if top g ≤ g e then low else g e) b (fun e => by
    simp only [h.top_eq, if_neg hb]
    split
    · exact h.reached
    · rename_i he
      rcases eq_or_ne e b with rfl | heb
      · exact le_rfl
      · exact (h.second e (fun hea => he (hea ▸ le_rfl)) heb).le)
  rw [next, this]
  simp only [h.top_eq, if_neg hb]

theorem exp_self : Ideal.exp (g a - g a) = 1 := by
  have h1 : g a ≠ ⊤ := h.finite.ne
  have h2 : g a ≠ ⊥ := (bot_lt_low.trans_le (h.reached.trans (h.first b h.ne.symm).le)).ne'
  rw [EReal.sub_self h1 h2, ← EReal.coe_zero, Ideal.exp_coe, Real.exp_zero, EReal.coe_one]

theorem weight_first : weight g a = soft (g a) (g b) (g a) := by
  rw [weight, h.top_eq, h.next_eq, if_pos (h.le_first b), soft, h.exp_self]

theorem weight_second : weight g b = soft (g a) (g b) (g b) := by
  rw [weight, h.top_eq, h.next_eq, if_pos le_rfl, soft, h.exp_self]

theorem weight_other (e : Fin 8) (ha : e ≠ a) (hb : e ≠ b) : weight g e = 0 := by
  rw [weight, h.next_eq, if_neg (not_le.mpr (h.second e ha hb))]

/-- Every expert weighed by the kernel's weights: the two followed. -/
theorem sum_weight (y : Fin 8 → EReal) :
    ∑ e, y e * weight g e = y a * soft (g a) (g b) (g a) + y b * soft (g a) (g b) (g b) := by
  rw [← h.weight_first, ← h.weight_second]
  exact Finset.sum_eq_add a b h.ne (fun e _ he => by rw [h.weight_other e he.1 he.2, mul_zero])
    (fun hn => absurd (Finset.mem_univ a) hn) (fun hn => absurd (Finset.mem_univ b) hn)

/-- Sorting by decreasing gate puts `a` first and `b` second. -/
theorem sorted (R : Fin 8 → Fin 8 → Bool) (hR : ∀ k k', R k k' = decide (g k' < g k)) :
    sortedFrom R 0 = a ∧ sortedFrom R 1 = b := by
  have inv : ∀ i j : Fin 8, i < j → g (sortedFrom R j) ≤ g (sortedFrom R i) := fun i j hij => by
    have := sortedFrom_noInversion R R (fun x y hxy => by
        rw [hR] at hxy ⊢
        exact decide_eq_false (not_lt.mpr (of_decide_eq_true hxy).le)) (fun _ _ hxy => hxy) (fun x y z hxy hyz => by
        rw [hR] at hxy hyz ⊢
        exact decide_eq_false (not_lt.mpr ((not_lt.mp (of_decide_eq_false hxy)).trans (not_lt.mp (of_decide_eq_false hyz))))) i j hij
    rw [hR] at this
    exact not_lt.mp (of_decide_eq_false this)
  have inj := sortedFrom_injective R
  obtain ⟨i, hi⟩ := sortedFrom_surjective R a
  obtain ⟨j, hj⟩ := sortedFrom_surjective R b
  have h0 : sortedFrom R 0 = a := by
    by_contra hne
    have hi0 : i ≠ 0 := fun e => hne (e ▸ hi)
    have := inv 0 i (Fin.pos_of_ne_zero hi0)
    rw [hi] at this
    exact absurd (h.first _ hne) (not_lt.mpr this)
  refine ⟨h0, ?_⟩
  by_contra hne
  have hj0 : j ≠ 0 := fun e => h.ne (h0.symm.trans (e ▸ hj))
  have hj1 : j ≠ 1 := fun e => hne (e ▸ hj)
  have := inv 1 j (by omega)
  rw [hj] at this
  refine absurd (h.second _ (fun e => ?_) hne) (not_lt.mpr this)
  exact absurd (inj (e.trans h0.symm)) (by decide)

end Routed

end Cert.Moe

end
-- ==== Proof.KernelValue.lean ====
/-
# The kernel's block of the result, read at one element
-/
module

public import proofs.«01_k».proof.Proof.Schedule
public import proofs.«01_k».proof.Proof.Model
public import Idealize.ShloMosaic.Lib.Pointwise

@[expose] public section

noncomputable section

namespace Cert.Moe

open Cert.KernelIdeal Cert.KernelIdeal.Gen
open Idealize.ShloMosaic

variable (T : Blocks Ideal)

/-! What is sent of the tokens and of the router, read at an element, and the sum of the four contributions. -/

theorem X_apply (c : Dev nD) (r : Fin 128) (l : Fin 512) : T.X c (ix3 0 r l) = T.x c (ix2 r l) := by
  pointwise [Blocks.X, k0_pay3]

theorem R_apply (c : Dev nD) (l : Fin 512) (e : Fin 2) : T.R c (ix3 0 l e) = T.r c (ix2 l e) := by
  pointwise [Blocks.R, k0_pay2]

theorem total_apply (p0 p1 p2 p3 : Vec Ideal S1x128x512 .bf16) (r : Fin 128) (d : Fin 512) :
    total p0 p1 p2 p3 (ix2 r d) = p0 (ix3 0 r d) + p1 (ix3 0 r d) + p2 (ix3 0 r d) + p3 (ix3 0 r d) := by
  pointwise [total, k0_pay1, k0_pay48, k0_pay49]

/-- Column `e` of four pairs of columns side by side. -/
def pick (r0 r1 r2 r3 : Vec Ideal S1x512x2 .f32) (l : Fin 512) (e : Fin 8) : EReal :=
  if h : e.val < 2 then r0 (ix3 0 l ⟨e.val, h⟩)
  else if h' : e.val - 2 < 2 then r1 (ix3 0 l ⟨e.val - 2, h'⟩)
  else if h'' : e.val - 2 - 2 < 2 then r2 (ix3 0 l ⟨e.val - 2 - 2, h''⟩)
  else r3 (ix3 0 l ⟨e.val - 2 - 2 - 2, by omega⟩)

/-- The routing weights of a row: the kernel's weights of the row's gates. -/
theorem weights_apply (r0 r1 r2 r3 : Vec Ideal S1x512x2 .f32) (x : Vec Ideal S128x512 .f32) (r : Fin 128) (e : Fin 8) :
    weights r0 r1 r2 r3 x (ix2 r e) = weight (gates (fun l => x (ix2 r l)) (pick r0 r1 r2 r3)) e := by
  pointwise [weights, k0_pay16, k0_pay17, k0_pay18, k0_pay19]
  rw [weight, next, top, ← bot_eq]
  rfl

/-- The device that holds expert `e`, and which of its two experts that is. -/
def home (e : Fin 8) : Dev nD := ⟨e.val / 2, by have := e.isLt; show e.val / 2 < 4; omega⟩
def seat (e : Fin 8) : Fin 2 := ⟨e.val % 2, Nat.mod_lt _ (by decide)⟩

/-- The gates of row `r` on device `c`. -/
abbrev gatesAt (c : Dev nD) (r : Fin 128) : Fin 8 → EReal :=
  gates (fun l => T.x c (ix2 r l)) (fun l e => T.r (home e) (ix2 l (seat e)))

/-- The four devices' router columns side by side are the whole router's. -/
theorem pick_eq (l : Fin 512) (e : Fin 8) : pick (T.R 0) (T.R 1) (T.R 2) (T.R 3) l e = T.r (home e) (ix2 l (seat e)) := by
  fin_cases e <;> exact R_apply T _ l _

/-- The routing weights of device `c`, as they are sent. -/
theorem W_apply (c : Dev nD) (r : Fin 128) (e : Fin 8) : T.W c (ix3 0 r e) = weight (gatesAt T c r) e := by
  have h : T.W c (ix3 0 r e) = weights (T.R 0) (T.R 1) (T.R 2) (T.R 3) (T.x c) (ix2 r e) := by
    pointwise [Blocks.W, k0_pay10]
  have hp : pick (T.R 0) (T.R 1) (T.R 2) (T.R 3) = fun l e => T.r (home e) (ix2 l (seat e)) := funext fun l => funext fun e => pick_eq T l e
  rw [h, weights_apply, hp]

/-- A row of weights against the indicator of one expert: that expert's weight. -/
theorem sum_indicator (w : Fin 8 → EReal) (p : BitVec 32) (e : Fin 8) (h : p = BitVec.ofNat 32 e.val) :
    ∑ c : Fin 8, Scalar.select (IntOp.cmpi .eq (BitVec.ofNat 32 c.val) p) (w c) 0 = w e := by
  rw [Finset.sum_eq_single e]
  · rw [h, show IntOp.cmpi .eq (BitVec.ofNat 32 e.val) (BitVec.ofNat 32 e.val) = 1#1 from by clear h; revert e; decide]
    rfl
  · intro c _ hc
    rw [h, show IntOp.cmpi .eq (BitVec.ofNat 32 c.val) (BitVec.ofNat 32 e.val) = 0#1 from by clear h; revert c e; decide]
    rfl
  · exact fun hn => absurd (Finset.mem_univ e) hn

/-- The `j`-th expert of device `z`. -/
def resident (z : Dev nD) (j : Fin 2) : Fin 8 := ⟨2 * z.val + j.val, by have := z.isLt; have : z.val < 4 := z.isLt; omega⟩

/-- A device's contribution to a row: its two experts, each weighed. -/
theorem expert_apply (z : Dev nD) (w1 : FVec Ideal S2x512x1024 .bf16) (w2 : FVec Ideal S2x1024x512 .bf16) (x : Vec Ideal S1x128x512 .bf16)
    (w : Vec Ideal S1x128x8 .f32) (r : Fin 128) (d : Fin 512) :
    expert (place z) w1 w2 x w (ix3 0 r d)
      = ffn (fun l => x (ix3 0 r l)) (fun l k => w1 (ix3 0 l k)) (fun k => w2 (ix3 0 k d)) * w (ix3 0 r (resident z 0))
        + ffn (fun l => x (ix3 0 r l)) (fun l k => w1 (ix3 1 l k)) (fun k => w2 (ix3 1 k d)) * w (ix3 0 r (resident z 1)) := by
  pointwise [expert, k0_pay27, k0_pay26, k0_pay25, k0_pay24, k0_pay23, k0_pay22, k0_pay21, k0_pay20]
  rw [sum_indicator (fun c => w (ix3 0 r c)) _ (resident z 0) (by revert z; decide),
    sum_indicator (fun c => w (ix3 0 r c)) _ (resident z 1) (by revert z; decide)]
  rfl

theorem resident_home : ∀ (z : Dev nD) (j : Fin 2), home (resident z j) = z ∧ seat (resident z j) = j := by decide

theorem w1_apply (z : Dev nD) (j : Fin 2) (l : Fin 512) (k : Fin 1024) : k0_pay14 (T.w1 z) (ix3 j l k) = T.w1 z (ix3 j l k) := by
  pointwise [k0_pay14]

theorem w2_apply (z : Dev nD) (j : Fin 2) (k : Fin 1024) (d : Fin 512) : k0_pay15 (T.w2 z) (ix3 j k d) = T.w2 z (ix3 j k d) := by
  pointwise [k0_pay15]

/-- Expert `e` on row `r` of device `c`. -/
abbrev outAt (c : Dev nD) (r : Fin 128) (d : Fin 512) (e : Fin 8) : EReal :=
  ffn (fun l => T.x c (ix2 r l)) (fun l k => T.w1 (home e) (ix3 (seat e) l k)) (fun k => T.w2 (home e) (ix3 (seat e) k d))

/-- The contribution of device `z` to a row of device `c`. -/
theorem P_apply (z c : Dev nD) (r : Fin 128) (d : Fin 512) :
    T.P z c (ix3 0 r d) = outAt T c r d (resident z 0) * weight (gatesAt T c r) (resident z 0)
      + outAt T c r d (resident z 1) * weight (gatesAt T c r) (resident z 1) := by
  have hx : (fun l => T.X c (ix3 0 r l)) = fun l => T.x c (ix2 r l) := funext fun l => X_apply T c r l
  have h1 : ∀ j, (fun l k => k0_pay14 (T.w1 z) (ix3 j l k)) = fun l k => T.w1 z (ix3 j l k) := fun j => funext fun l => funext fun k => w1_apply T z j l k
  have h2 : ∀ j, (fun k => k0_pay15 (T.w2 z) (ix3 j k d)) = fun k => T.w2 z (ix3 j k d) := fun j => funext fun k => w2_apply T z j k d
  rw [Blocks.P, expert_apply, hx, h1, h1, h2, h2, W_apply, W_apply]
  simp only [outAt, (resident_home z 0).1, (resident_home z 0).2, (resident_home z 1).1, (resident_home z 1).2]

/-- The kernel's block at one element: every expert, weighed. -/
theorem O_apply (c : Dev nD) (r : Fin 128) (d : Fin 512) :
    T.O c (ix2 r d) = ∑ e, outAt T c r d e * weight (gatesAt T c r) e := by
  rw [Blocks.O, total_apply, P_apply, P_apply, P_apply, P_apply, Fin.sum_univ_eight]
  simp only [add_assoc]
  rfl

end Cert.Moe

end
-- ==== Proof.RefValue.lean ====
/-
# The reference's result, read at one element
-/
module

public import proofs.«01_k».proof.Proof.Gen.ReferenceIdeal.Run
public import proofs.«01_k».proof.Proof.Model
public import Idealize.ShloMosaic.Lib.Pointwise
public import Idealize.ShloMosaic.Lib.Tactic.CleanTypes

@[expose] public section

noncomputable section

namespace Cert.Moe.Ref

open Cert.ReferenceIdeal Cert.ReferenceIdeal.Gen Cert.ReferenceIdeal.Value
open Idealize.ShloMosaic

variable (V : Valuation τ sig (Elt Ideal))

/-- The arguments, by coordinates: a row of tokens, the router, an expert's two matrices. -/
def x (r : Fin 512) (l : Fin 512) : EReal := (V (Proc.devRef .tc main_arg0) : FVec Ideal S512x512 .f32) (ix2 r l)
def router (l : Fin 512) (e : Fin 8) : EReal := (V (Proc.devRef .tc main_arg1) : FVec Ideal S512x8 .f32) (ix2 l e)
def w1 (e : Fin 8) (l : Fin 512) (k : Fin 1024) : EReal := (V (Proc.devRef .tc main_arg2) : FVec Ideal S8x512x1024 .f32) (ix3 e l k)
def w2 (e : Fin 8) (d : Fin 512) (k : Fin 1024) : EReal := (V (Proc.devRef .tc main_arg3) : FVec Ideal S8x1024x512 .f32) (ix3 e k d)

/-- The gates of row `r`. -/
abbrev g (r : Fin 512) : Fin 8 → EReal := gates (x V r) (router V)

/-- The reference's first product is the gates. -/
theorem gates_apply (r : Fin 512) (e : Fin 8) : (res_main_v0 V : FVec Ideal S512x8 .f32) (ix2 r e) = g V r e := by
  pointwise [res_main_v0]
  rfl

/-- The sort compares the gates negated, with a zero of either sign as zero: it puts the larger first. -/
theorem before_apply (v w : EReal) :
    (FloatOps.cmpfTotal (F := Ideal) (φ := .f32) .lt
        (if -v ≠ -v then Ideal.ofBits .f32 2143289344#32 else if -v = 0 then 0 else -v)
        (if -w ≠ -w then Ideal.ofBits .f32 2143289344#32 else if -w = 0 then 0 else -w) == 1#1) = decide (w < v) := by
  have key : ∀ u : EReal, (if -u ≠ -u then Ideal.ofBits .f32 2143289344#32 else if -u = 0 then 0 else -u) = -u := fun u => by
    rw [if_neg (not_not.mpr rfl)]
    split
    · exact Eq.symm (by assumption)
    · rfl
  rw [key, key]
  show (BitVec.ofBool (decide (-v < -w)) == 1#1) = _
  rw [decide_eq_decide.mpr (EReal.neg_lt_neg_iff (a := v) (b := w))]
  cases decide (w < v) <;> rfl

/-- The sort's two leading positions on row `r`. -/
theorem sort_apply (r : Fin 512) (i : Fin 2) :
    (res_main_v3 V : IVec S512x2 32) (ix2 r i)
      = BitVec.ofNat 32 (sortedFrom (fun k k' : Fin 8 => decide (g V r k' < g V r k)) (i.castLE (by decide))).val := by
  have along : ∀ j k : Fin 8, (ix2 r j : S512x8.Idx).along 1 k = ix2 r k := fun j k => by
    funext a
    revert a
    exact Fin.forall_fin_two.mpr ⟨rfl, rfl⟩
  pointwise [res_main_v3, Host.sort2, res_main_call0_v0, res_main_v1, comparator_f32_i32_d1]
  simp only [along, gates_apply, before_apply]
  rfl

/-- On a routed row they are the two gates followed. -/
theorem picks (r : Fin 512) {a b : Fin 8} (h : Routed (g V r) a b) :
    (res_main_v3 V : IVec S512x2 32) (ix2 r 0) = BitVec.ofNat 32 a.val ∧ (res_main_v3 V : IVec S512x2 32) (ix2 r 1) = BitVec.ofNat 32 b.val := by
  obtain ⟨h0, h1⟩ := h.sorted _ fun _ _ => rfl
  exact ⟨(sort_apply V r 0).trans (congrArg (fun k : Fin 8 => BitVec.ofNat 32 k.val) h0),
    (sort_apply V r 1).trans (congrArg (fun k : Fin 8 => BitVec.ofNat 32 k.val) h1)⟩

/-- The index taken along is the position itself: it is not negative, so nothing is added to it. -/
theorem wrap_apply (r : Fin 512) (i : Fin 2) (k : Fin 8) (h : (res_main_v3 V : IVec S512x2 32) (ix2 r i) = BitVec.ofNat 32 k.val) :
    (res_main_call1_v5 V : IVec S512x2x1 32) (ix3 r i 0) = BitVec.ofNat 32 k.val := by
  pointwise [res_main_call1_v5]
  rw [h]
  clear h
  revert k
  decide

/-- The gather reads row `r`'s gate at the index it is given. -/
theorem gather_apply (v : FVec Ideal S512x8 .f32) (idx : IVec S512x2x1 32) (r : Fin 512) (i : Fin 2) (k : Fin 8)
    (h : idx (ix3 r i 0) = BitVec.ofNat 32 k.val) :
    Host.gather gather_S512x8_S512x2x1_S512x2_n_1_0_0_1_2_11 v idx (ix2 r i) = v (ix2 r k) := by
  refine congrArg v (funext fun a => Fin.ext ?_)
  revert a
  refine Fin.forall_fin_two.mpr ⟨?_, ?_⟩
  · show GatherDims.start _ _ _ 0 + GatherDims.batchCoord _ _ 0 + GatherDims.offCoord _ _ 0 = r.val
    rw [GatherDims.start_batching _ _ _ _ (List.mem_singleton.mpr rfl),
      GatherDims.offCoord_eq_zero _ _ _ (fun hk => ((GatherDims.mem_sKept _ _).mp hk).2 (List.mem_singleton.mpr rfl)),
      GatherDims.batchCoord, dif_pos (show (0 : Fin 2) ∈ gather_S512x8_S512x2x1_S512x2_n_1_0_0_1_2_11.operandBatchingDims from List.mem_singleton.mpr rfl), Nat.zero_add, Nat.add_zero]
    rfl
  · show GatherDims.start _ _ _ 1 + GatherDims.batchCoord _ _ 1 + GatherDims.offCoord _ _ 1 = k.val
    rw [GatherDims.batchCoord_eq_zero _ _ _ (fun hk => absurd (List.mem_singleton.mp hk) (by decide)),
      GatherDims.offCoord_eq_zero _ _ _ (fun hk => ((GatherDims.mem_sKept _ _).mp hk).1 (List.mem_singleton.mpr rfl)),
      GatherDims.start, dif_pos (show (1 : Fin 2) ∈ gather_S512x8_S512x2x1_S512x2_n_1_0_0_1_2_11.startIndexMap from List.mem_singleton.mpr rfl)]
    have hs : ∀ n, GatherDims.siIdx gather_S512x8_S512x2x1_S512x2_n_1_0_0_1_2_11 (ix2 r i) n = ix3 r i 0 := fun n => by
      funext b
      refine Fin.ext ?_
      match b with
      | ⟨0, _⟩ => rfl
      | ⟨1, _⟩ => rfl
      | ⟨2, _⟩ => exact Nat.lt_one_iff.mp n.isLt
    rw [hs, h]
    clear h
    revert k
    decide

/-- The gate taken at a position is the gate there: the position is within the row. -/
theorem taken_apply (r : Fin 512) (i : Fin 2) (k : Fin 8) (h : (res_main_v3 V : IVec S512x2 32) (ix2 r i) = BitVec.ofNat 32 k.val) :
    (res_main_v4 V : FVec Ideal S512x2 .f32) (ix2 r i) = g V r k := by
  have hw := wrap_apply V r i k h
  unfold res_main_v4
  clean_types
  pointwise
  rw [gather_apply _ _ r i k hw, gates_apply]
  have hone : Finset.univ = ({0} : Finset (Fin 1)) := rfl
  rw [hone, Finset.fold_singleton, hw]
  have hin : IntOp.andi (IntOp.andi (IntOp.cmpi .sge (BitVec.ofNat 32 k.val) 0#32) (IntOp.cmpi .sle (BitVec.ofNat 32 k.val) 7#32)) 1#1 = 1#1 := by
    clear hw h
    revert k
    decide
  rw [hin]
  rfl

/-- The larger of two. -/
theorem fold_two (f : Fin 2 → EReal) : Finset.univ.fold max ⊥ f = max (f 0) (f 1) := by
  have htwo : Finset.univ = ({0, 1} : Finset (Fin 2)) := rfl
  rw [htwo, Finset.fold_insert (by decide), Finset.fold_singleton, max_bot_right]

/-- The weight at each of the two places is the softmax of the two gates followed. -/
theorem soft_apply (r : Fin 512) (i : Fin 2) {a b : Fin 8} (h : Routed (g V r) a b) :
    (res_main_v13 V : FVec Ideal S512x2 .f32) (ix2 r i) = soft (g V r a) (g V r b) ((res_main_v4 V : FVec Ideal S512x2 .f32) (ix2 r i)) := by
  obtain ⟨ha, hb⟩ := picks V r h
  unfold res_main_v13 res_main_v9
  clean_types
  pointwise
  rw [bot_eq, fold_two, Fin.sum_univ_two, taken_apply V r 0 a ha, taken_apply V r 1 b hb, max_eq_left (h.le_first b)]
  rfl

/-- Expert `e`'s turn at the gate in place `i`: its output, weighted, where the gate is its own. -/
def turn (r d : Fin 512) (i : Fin 2) (e : Fin 8) : EReal :=
  Scalar.select (IntOp.cmpi .eq ((res_main_v3 V : IVec S512x2 32) (ix2 r i)) (BitVec.ofNat 32 e.val))
    (ffn (x V r) (w1 V e) (w2 V e d) * (res_main_v13 V : FVec Ideal S512x2 .f32) (ix2 r i)) (Ideal.ofBits .f32 0#32)

/-- An element of a result, as an extended real. -/
def at2 (v : FVec Ideal S512x512 .f32) (r d : Fin 512) : EReal := v (ix2 r d)

/-- The reference's sum: eight turns at each of the two places. -/
theorem turns (r d : Fin 512) :
    at2 (res_main_v270 V) r d = ∑ e, turn V r d 0 e + ∑ e, turn V r d 1 e := by
  have h1 : at2 (res_main_v78 V) r d = turn V r d 0 0 + turn V r d 0 1 + turn V r d 0 2 + turn V r d 0 3 := by
    unfold at2 res_main_v78
    clean_types
    pointwise
    rfl
  have h2 : at2 (res_main_v142 V) r d = at2 (res_main_v78 V) r d
      + turn V r d 0 4 + turn V r d 0 5 + turn V r d 0 6 + turn V r d 0 7 := by
    unfold at2 res_main_v142
    clean_types
    pointwise
    rfl
  have h3 : at2 (res_main_v206 V) r d = at2 (res_main_v142 V) r d
      + turn V r d 1 0 + turn V r d 1 1 + turn V r d 1 2 + turn V r d 1 3 := by
    unfold at2 res_main_v206
    clean_types
    pointwise
    rfl
  have h4 : at2 (res_main_v270 V) r d = at2 (res_main_v206 V) r d
      + turn V r d 1 4 + turn V r d 1 5 + turn V r d 1 6 + turn V r d 1 7 := by
    unfold at2 res_main_v270
    clean_types
    pointwise
    rfl
  rw [h4, h3, h2, h1, Fin.sum_univ_eight, Fin.sum_univ_eight]
  simp only [add_assoc]

/-- Of the eight turns at a place only the expert picked there contributes. -/
theorem turns_at (r d : Fin 512) (i : Fin 2) (k : Fin 8) (h : (res_main_v3 V : IVec S512x2 32) (ix2 r i) = BitVec.ofNat 32 k.val) :
    ∑ e, turn V r d i e = ffn (x V r) (w1 V k) (w2 V k d) * (res_main_v13 V : FVec Ideal S512x2 .f32) (ix2 r i) := by
  rw [Finset.sum_eq_single k]
  · rw [turn, h, show IntOp.cmpi .eq (BitVec.ofNat 32 k.val) (BitVec.ofNat 32 k.val) = 1#1 from by clear h; revert k; decide]
    rfl
  · intro e _ he
    rw [turn, h, show IntOp.cmpi .eq (BitVec.ofNat 32 k.val) (BitVec.ofNat 32 e.val) = 0#1 from by
      clear h; revert k e; decide]
    exact Ideal.ofBits_zero_f32
  · exact fun hn => absurd (Finset.mem_univ k) hn

/-- The reference on a routed row: the two experts followed, weighted by the softmax of their gates. -/
theorem result_apply (r d : Fin 512) {a b : Fin 8} (h : Routed (g V r) a b) :
    at2 (res_main_v270 V) r d
      = ffn (x V r) (w1 V a) (w2 V a d) * soft (g V r a) (g V r b) (g V r a)
        + ffn (x V r) (w1 V b) (w2 V b d) * soft (g V r a) (g V r b) (g V r b) := by
  obtain ⟨ha, hb⟩ := picks V r h
  rw [turns, turns_at V r d 0 a ha, turns_at V r d 1 b hb, soft_apply V r 0 h, soft_apply V r 1 h, taken_apply V r 0 a ha,
    taken_apply V r 1 b hb]

end Cert.Moe.Ref

end
-- ==== Proof.Mask.lean ====
/-
# The rows the claim is about

The predicate marks the rows on which one gate is the largest, one the largest of the rest, the one finite and the other at least -1e30.
-/
module

public import proofs.«01_k».proof.Proof.Gen.On_top_two_unique
public import proofs.«01_k».proof.Proof.Model
public import Idealize.ShloMosaic.Lib.Pointwise
public import Idealize.ShloMosaic.Lib.Tactic.CleanTypes
public import Idealize.ShloMosaic.Lib.Routing.OpsOrder
public import Idealize.ShloMosaic.Lib.IndicatorCount

@[expose] public section

noncomputable section

namespace Cert.Moe.Mask

open Cert.On_top_two_unique
open Idealize.ShloMosaic

/-- How many gates reach gate `e`, itself included, as a word. -/
def reach (g : Fin 8 → EReal) (e : Fin 8) : BitVec 32 :=
  Finset.univ.fold IntOp.addi 0#32 fun k => BitVec.setWidth 32 (BitVec.ofBool (decide (g e ≤ g k)))

/-- The predicate on one row. -/
def row (g : Fin 8 → EReal) : BitVec 1 :=
  IntOp.andi
    (Finset.univ.fold IntOp.ori 0#1 fun e => IntOp.andi (IntOp.cmpi .eq (reach g e) 1#32) (BitVec.ofBool (decide (g e < Ideal.ofBits .f32 0x7F800000#32))))
    (Finset.univ.fold IntOp.ori 0#1 fun e => IntOp.andi (IntOp.cmpi .eq (reach g e) 2#32) (BitVec.ofBool (decide (low ≤ g e))))

/-- The predicate read at an element is the predicate on its row's gates. -/
theorem fn_apply (x : FVec Ideal S512x512 .f32) (router : FVec Ideal S512x8 .f32) (w1 : FVec Ideal S8x512x1024 .f32) (w2 : FVec Ideal S8x1024x512 .f32)
    (r d : Fin 512) : (fn x router w1 w2 : IVec S512x512 1) (ix2 r d) = row (gates (fun l => x (ix2 r l)) (fun l e => router (ix2 l e))) := by
  unfold fn fn_part1
  clean_types
  pointwise
  rfl

theorem ofBool_one {b : Bool} : BitVec.ofBool b = 1#1 ↔ b = true := by
  cases b <;> decide

theorem andi_one {p q : BitVec 1} : IntOp.andi p q = 1#1 ↔ p = 1#1 ∧ q = 1#1 := by
  revert p q
  decide

/-- The word counts the gates that reach `g e`. -/
theorem reach_eq (g : Fin 8 → EReal) (e : Fin 8) :
    reach g e = BitVec.ofNat 32 (Finset.univ.filter fun k => g e ≤ g k).card := by
  rw [reach, IndicatorCount.fold_addi_setWidth_eq_card]
  simp only [ofBool_one, decide_eq_true_eq]

/-- A count that compares equal to a small number is that number. -/
theorem reach_card (g : Fin 8 → EReal) (e : Fin 8) (n : ℕ) (hn : n < 9) (h : IntOp.cmpi .eq (reach g e) (BitVec.ofNat 32 n) = 1#1) :
    (Finset.univ.filter fun k => g e ≤ g k).card = n := by
  have hle : (Finset.univ.filter fun k => g e ≤ g k).card ≤ 8 := (Finset.card_le_univ _).trans (by decide)
  have he : reach g e = BitVec.ofNat 32 n := by
    simpa [IntOp.cmpi, ofBool_one] using h
  rw [reach_eq] at he
  have := congrArg BitVec.toNat he
  rw [BitVec.toNat_ofNat, BitVec.toNat_ofNat] at this
  omega

/-- A row that satisfies the predicate is routed: reached once is the largest, reached twice the second. -/
theorem row_routed {g : Fin 8 → EReal} (h : row g = 1#1) : ∃ a b, Routed g a b := by
  obtain ⟨h1, h2⟩ := andi_one.mp h
  obtain ⟨a, -, ha⟩ := (Routing.fold_ori _ _).mp h1
  obtain ⟨b, -, hb⟩ := (Routing.fold_ori _ _).mp h2
  obtain ⟨ha, hfin⟩ := andi_one.mp ha
  obtain ⟨hb, hlow⟩ := andi_one.mp hb
  rw [top_pattern, ofBool_one, decide_eq_true_eq] at hfin
  rw [ofBool_one, decide_eq_true_eq] at hlow
  have ca := reach_card g a 1 (by decide) ha
  have cb := reach_card g b 2 (by decide) hb
  have hne : a ≠ b := by
    rintro rfl
    omega
  have first : ∀ e, e ≠ a → g e < g a := fun e he => by
    by_contra hn
    have := Finset.card_le_one.mp ca.le e (by simpa using not_lt.mp hn) a (by simp)
    exact he this
  refine ⟨a, b, hne, first, fun e hea heb => ?_, hfin, hlow⟩
  by_contra hn
  have three : ({a, b, e} : Finset (Fin 8)) ⊆ Finset.univ.filter fun k => g b ≤ g k := fun k hk => by
    simp only [Finset.mem_insert, Finset.mem_singleton] at hk
    rcases hk with rfl | rfl | rfl
    · simpa using (first b hne.symm).le
    · simp
    · simpa using not_lt.mp hn
  have := Finset.card_le_card three
  rw [cb, Finset.card_eq_three.mpr ⟨a, b, e, hne, hea.symm, heb.symm, rfl⟩] at this
  omega

/-- Where the predicate holds the row of gates is routed. -/
theorem routed {x : FVec Ideal S512x512 .f32} {router : FVec Ideal S512x8 .f32} {w1 : FVec Ideal S8x512x1024 .f32} {w2 : FVec Ideal S8x1024x512 .f32}
    {r d : Fin 512} (h : (fn x router w1 w2 : IVec S512x512 1) (ix2 r d) = 1#1) :
    ∃ a b, Routed (gates (fun l => x (ix2 r l)) (fun l e => router (ix2 l e))) a b :=
  row_routed ((fn_apply x router w1 w2 r d).symm.trans h)

end Cert.Moe.Mask

end
-- ==== Proof.Value.lean ====
/-
# The kernel against the reference

The devices' blocks laid together are the reference's arrays: row `r` on device `c` is row `128 c + r`, and device `z`'s two experts
are experts `2 z` and `2 z + 1`. On a routed row both programs' elements are the two followed experts' outputs, weighted.
-/
module

public import proofs.«01_k».proof.Defs
public import proofs.«01_k».proof.Proof.Frames
public import proofs.«01_k».proof.Proof.Ends
public import proofs.«01_k».proof.Proof.KernelValue
public import proofs.«01_k».proof.Proof.RefValue
public import proofs.«01_k».proof.Proof.Mask
public import Idealize.ShloMosaic.Lib.Layout

@[expose] public section

noncomputable section

namespace Cert.Moe

open Cert.KernelIdeal Cert.KernelIdeal.Gen
open Idealize.ShloMosaic Idealize.SL.Sem

/-! ## Blocks, by coordinates -/

/-- Row `r` on device `c`, in the whole array. -/
def row (c : Dev nD) (r : Fin 128) : Fin 512 := ⟨c.val * 128 + r.val, by have : c.val < 4 := c.isLt; omega⟩

/-- A device's place along the mesh's last axis is its number. -/
theorem along_mesh : ∀ c : Dev nD, Layout.meshLin [1, 1, 4] c.val [2] = c.val := by decide

/-- An expert is the one on its device at its place there. -/
theorem home_seat : ∀ e : Fin 8, resident (home e) (seat e) = e := by decide

/-- Device `c`'s rows of a whole array. -/
theorem block_rows {α : Type} (v : (⟨2, ![512, 512]⟩ : Shape).Idx → α) (c : Dev nD) (r : Fin 128) (l : Fin 512) :
    Layout.blockN ⟨2, ![128, 512]⟩ ⟨2, ![512, 512]⟩ (Layout.meshBlock [1, 1, 4] ![[2], []] c) v (by decide) (ix2 r l) = v (ix2 (row c r) l) := by
  refine congrArg v (funext fun a => Fin.ext ?_)
  revert a
  refine Fin.forall_fin_two.mpr ⟨?_, ?_⟩
  · show Layout.meshLin [1, 1, 4] c.val [2] * 128 + r.val = c.val * 128 + r.val
    rw [along_mesh]
  · show 0 * 512 + l.val = l.val
    omega

/-- The router column of expert `e`, in the block of the device it is on. -/
theorem block_columns {α : Type} (v : (⟨2, ![512, 8]⟩ : Shape).Idx → α) (e : Fin 8) (l : Fin 512) :
    Layout.blockN ⟨2, ![512, 2]⟩ ⟨2, ![512, 8]⟩ (Layout.meshBlock [1, 1, 4] ![[], [2]] (home e)) v (by decide) (ix2 l (seat e)) = v (ix2 l e) := by
  refine congrArg v (funext fun a => Fin.ext ?_)
  revert a
  refine Fin.forall_fin_two.mpr ⟨?_, ?_⟩
  · show 0 * 512 + l.val = l.val
    omega
  · show Layout.meshLin [1, 1, 4] (home e).val [2] * 2 + (seat e).val = e.val
    rw [along_mesh, Nat.mul_comm]
    exact congrArg Fin.val (home_seat e)

/-- An expert's matrix in the block of the device it is on. -/
theorem block_expert {α : Type} {n k : ℕ} (v : (⟨3, ![8, n, k]⟩ : Shape).Idx → α)
    (h : Layout.TilesN ⟨3, ![2, n, k]⟩ ⟨3, ![8, n, k]⟩ fun b => Layout.cutSize [1, 1, 4] ((![[2], [], []] : Fin 3 → List ℕ) b))
    (e : Fin 8) (p : Fin n) (q : Fin k) :
    Layout.blockN ⟨3, ![2, n, k]⟩ ⟨3, ![8, n, k]⟩ (Layout.meshBlock [1, 1, 4] ![[2], [], []] (home e)) v h (ix3 (seat e) p q) = v (ix3 e p q) := by
  refine congrArg v (funext fun a => Fin.ext ?_)
  match a with
  | ⟨0, _⟩ =>
    show Layout.meshLin [1, 1, 4] (home e).val [2] * 2 + (seat e).val = e.val
    rw [along_mesh, Nat.mul_comm]
    exact congrArg Fin.val (home_seat e)
  | ⟨1, _⟩ =>
    show 0 * n + p.val = p.val
    omega
  | ⟨2, _⟩ =>
    show 0 * k + q.val = q.val
    omega

/-! ## The two programs -/

section
variable (m : (ℓ : Loc nD τ sig) → Buf (Elt Ideal) ℓ) (ρ : Dev nD → PrngReg)
  (m' : (ℓ : Loc Cert.ReferenceIdeal.nD Cert.ReferenceIdeal.τ Cert.ReferenceIdeal.sig) → Buf (Elt Ideal) ℓ)

/-- The reference's initial contents, by buffer. -/
abbrev V : Valuation Cert.ReferenceIdeal.τ Cert.ReferenceIdeal.sig (Elt Ideal) := StableHlo.launchContents m' 0

/-- The devices' arguments are the blocks of the reference's. -/
def Laid : Prop := ∀ c : Dev nD,
  m ((c.tc : Thread nD τ).loc main_arg0) = Layout.blockN ⟨2, ![128, 512]⟩ ⟨2, ![512, 512]⟩ (Layout.meshBlock [1, 1, 4] ![[2], []] c) (m' (((0 : Dev Cert.ReferenceIdeal.nD).tc : Thread Cert.ReferenceIdeal.nD Cert.ReferenceIdeal.τ).loc Cert.ReferenceIdeal.main_arg0))
  ∧ m ((c.tc : Thread nD τ).loc main_arg1) = Layout.blockN ⟨2, ![512, 2]⟩ ⟨2, ![512, 8]⟩ (Layout.meshBlock [1, 1, 4] ![[], [2]] c) (m' (((0 : Dev Cert.ReferenceIdeal.nD).tc : Thread Cert.ReferenceIdeal.nD Cert.ReferenceIdeal.τ).loc Cert.ReferenceIdeal.main_arg1))
  ∧ m ((c.tc : Thread nD τ).loc main_arg2) = Layout.blockN ⟨3, ![2, 512, 1024]⟩ ⟨3, ![8, 512, 1024]⟩ (Layout.meshBlock [1, 1, 4] ![[2], [], []] c) (m' (((0 : Dev Cert.ReferenceIdeal.nD).tc : Thread Cert.ReferenceIdeal.nD Cert.ReferenceIdeal.τ).loc Cert.ReferenceIdeal.main_arg2))
  ∧ m ((c.tc : Thread nD τ).loc main_arg3) = Layout.blockN ⟨3, ![2, 1024, 512]⟩ ⟨3, ![8, 1024, 512]⟩ (Layout.meshBlock [1, 1, 4] ![[2], [], []] c) (m' (((0 : Dev Cert.ReferenceIdeal.nD).tc : Thread Cert.ReferenceIdeal.nD Cert.ReferenceIdeal.τ).loc Cert.ReferenceIdeal.main_arg3))

variable {m m'} (h : Laid m m')
include h

/-! The devices' blocks are the reference's arrays. -/

theorem x_eq (c : Dev nD) (r : Fin 128) : (fun l => (held m ρ).x c (ix2 r l)) = Ref.x (V m') (row c r) := by
  funext l
  rw [held_x, (h c).1]
  exact block_rows _ c r l

theorem router_eq : (fun l e => (held m ρ).r (home e) (ix2 l (seat e))) = Ref.router (V m') := by
  funext l e
  rw [held_r, (h (home e)).2.1]
  exact block_columns _ e l

theorem w1_eq (e : Fin 8) : (fun l k => (held m ρ).w1 (home e) (ix3 (seat e) l k)) = Ref.w1 (V m') e := by
  funext l k
  rw [held_w1, (h (home e)).2.2.1]
  exact block_expert _ _ e l k

theorem w2_eq (e : Fin 8) (d : Fin 512) : (fun k => (held m ρ).w2 (home e) (ix3 (seat e) k d)) = Ref.w2 (V m') e d := by
  funext k
  rw [held_w2, (h (home e)).2.2.2]
  exact block_expert _ _ e k d

/-- The two programs' elements on a routed row. -/
theorem same (c : Dev nD) (r : Fin 128) (d : Fin 512) {a b : Fin 8} (hr : Routed (Ref.g (V m') (row c r)) a b) :
    (held m ρ).O c (ix2 r d) = Ref.at2 (Cert.ReferenceIdeal.Value.res_main_v270 (V m')) (row c r) d := by
  have hx := x_eq ρ h c r
  have hg : gatesAt (held m ρ) c r = Ref.g (V m') (row c r) := by
    rw [gatesAt, hx, router_eq ρ h]
  have hy : outAt (held m ρ) c r d = fun e => ffn (Ref.x (V m') (row c r)) (Ref.w1 (V m') e) (Ref.w2 (V m') e d) := by
    funext e
    rw [outAt, hx, w1_eq ρ h e, w2_eq ρ h e d]
  rw [O_apply, hg, hy, hr.sum_weight, Ref.result_apply (V m') _ d hr]

end

/-- Wherever the predicate holds, the kernel's result on each device is its part of the reference's. -/
theorem algebraic : Cert.algebraic_KernelIdeal_ReferenceIdeal_on_top_two_unique := fun m ρ m' ρ' _ h =>
  ⟨Cert.ReferenceIdeal.Value.res_main_v270 (V m'),
    (θ_run defs _ _).mono (fun s hs c => ⟨fun i hi => by
        obtain ⟨r, d, rfl⟩ : ∃ (r : Fin 128) (d : Fin 512), i = ix2 r d := ⟨i 0, i 1, by funext a; revert a; exact Fin.forall_fin_two.mpr ⟨rfl, rfl⟩⟩
        rw [block_rows] at hi ⊢
        obtain ⟨a, b, hr⟩ := Mask.routed hi
        exact (congrFun ((hs.1 c 4).trans (final_o m ρ c)) (ix2 r d)).trans (same ρ h c r d hr),
      (hs.1 c 0).trans ((dats m ρ 0 c).arrAt_in (0 : Fin 5) rfl _), (hs.1 c 1).trans ((dats m ρ 0 c).arrAt_in (1 : Fin 5) rfl _),
      (hs.1 c 2).trans ((dats m ρ 0 c).arrAt_in (2 : Fin 5) rfl _), (hs.1 c 3).trans ((dats m ρ 0 c).arrAt_in (3 : Fin 5) rfl _)⟩)
      (run_main m ρ),
    (θ_run Cert.ReferenceIdeal.defs _ _).mono (fun s hs => ⟨fun i _ => congrFun (hs 0).1 i, (hs 0).2⟩)
      (Cert.ReferenceIdeal.Value.run (F := Ideal) m' ρ')⟩

end Cert.Moe

end
-- ==== Proof.lean ====
/-
# The certificate

The run of the four kernels (`Cert.Moe.run_main`) is proved once, for any float values: from it come the kernel's frame at its own
floats and at the reals, and what each device's result holds; the reference runs on the host, and `Cert.Moe.algebraic` compares the two.
-/
module

public import proofs.«01_k».proof.Defs
public import proofs.«01_k».proof.Proof.Gen.Kernel
public import proofs.«01_k».proof.Proof.Gen.KernelIdeal
public import proofs.«01_k».proof.Proof.Gen.On_top_two_unique
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
    Cert.On_top_two_unique.Gen.facts, by
  exact ⟨Cert.Moe.frame_kernel, Cert.Moe.frame_ideal, Cert.Moe.frame_reference, trivial, Cert.Moe.algebraic⟩⟩

end Cert.Proof

end
